-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_labels_and_weights [hPre_labels_and_weights : Cert.Pre_labels_and_weights.Facts] (m : (ℓ : Loc Cert.KernelIdeal.nD Cert.KernelIdeal.τ Cert.KernelIdeal.sig) → Buf (Elt Ideal) ℓ) : Prop :=
  ∀ c : Dev Cert.KernelIdeal.nD,
    (Cert.Pre_labels_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_labels_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_labels_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_and_weights [hPre_labels_and_weights : Cert.Pre_labels_and_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_labels_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_labels_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_labels_and_weights [hKernelIdeal : Cert.KernelIdeal.Facts] [hPre_labels_and_weights : Cert.Pre_labels_and_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_labels_and_weights [hReferenceIdeal : Cert.ReferenceIdeal.Facts] [hPre_labels_and_weights : Cert.Pre_labels_and_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_and_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_labels_and_weights [hKernelIdeal : Cert.KernelIdeal.Facts] [hReferenceIdeal : Cert.ReferenceIdeal.Facts] [hPre_labels_and_weights : Cert.Pre_labels_and_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_and_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_labels_and_weights : Cert.Pre_labels_and_weights.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_labels_and_weights (hKernelIdeal := hKernelIdeal) (hPre_labels_and_weights := hPre_labels_and_weights)
    ∧ quiescent_ReferenceIdeal (hReferenceIdeal := hReferenceIdeal)
    ∧ quiescent_ReferenceIdeal_pre_labels_and_weights (hReferenceIdeal := hReferenceIdeal) (hPre_labels_and_weights := hPre_labels_and_weights)
    ∧ preserves_Kernel_KernelIdeal
    ∧ algebraic_KernelIdeal_ReferenceIdeal_pre_labels_and_weights (hKernelIdeal := hKernelIdeal) (hReferenceIdeal := hReferenceIdeal) (hPre_labels_and_weights := hPre_labels_and_weights)
-- ==== Pre_labels_and_weights.lean ====
abbrev S4x3x224x224 : Shape := ⟨4, ![4, 3, 224, 224]⟩
abbrev S4x128 : Shape := ⟨2, ![4, 128]⟩
abbrev S4 : Shape := ⟨1, ![4]⟩
abbrev S4x1x224x224 : Shape := ⟨4, ![4, 1, 224, 224]⟩
abbrev S1000x64 : Shape := ⟨2, ![1000, 64]⟩
abbrev S1000x128 : Shape := ⟨2, ![1000, 128]⟩
abbrev S3x131x3x3 : Shape := ⟨4, ![3, 131, 3, 3]⟩
abbrev S3 : Shape := ⟨1, ![3]⟩
abbrev S192x3 : Shape := ⟨2, ![192, 3]⟩
abbrev S_ : Shape := ⟨0, ![]⟩
abbrev S3x128x3x3 : Shape := ⟨4, ![3, 128, 3, 3]⟩

class Facts : Prop where
  bcast_S_S4 : S_.BroadcastsInDim S4 (![] : Fin 0 → Fin S4.rank)
  bcast_S_S4x1x224x224 : S_.BroadcastsInDim S4x1x224x224 (![] : Fin 0 → Fin S4x1x224x224.rank)
  slices_S3x131x3x3_S3x128x3x3_0_3_0_0 : S3x131x3x3.Slices ![0, 3, 0, 0] S3x128x3x3
  bcast_S_S3x128x3x3 : S_.BroadcastsInDim S3x128x3x3 (![] : Fin 0 → Fin S3x128x3x3.rank)

variable [Facts]

def fn {F : FTy → Type} [FloatOps F] (main_arg0 : FVec F S4x3x224x224 .f32) (main_arg1 : FVec F S4x128 .f32) (main_arg2 : IVec S4 32) (main_arg3 : IVec S4x1x224x224 32) (main_arg4 : FVec F S1000x64 .f32) (main_arg5 : FVec F S1000x128 .f32) (main_arg6 : FVec F S3x131x3x3 .f32) (main_arg7 : FVec F S3 .f32) (main_arg8 : FVec F S192x3 .f32) (main_arg9 : FVec F S3 .f32) : IVec S4 1 × IVec S4x1x224x224 1 × IVec S3x128x3x3 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 1000#32
  let main_v2 : IVec S4 32 := broadcastInDim S4 ![] bcast_S_S4 main_c_0
  let main_v3 : IVec S4 1 := cmpi .slt main_arg2 main_v2
  let main_v4 : IVec S4 1 := andi main_v1 main_v3
  let main_c_1 : IVec S_ 32 := constantI S_ 32 0#32
  let main_v5 : IVec S4x1x224x224 32 := broadcastInDim S4x1x224x224 ![] bcast_S_S4x1x224x224 main_c_1
  let main_v6 : IVec S4x1x224x224 1 := cmpi .sge main_arg3 main_v5
  let main_c_2 : IVec S_ 32 := constantI S_ 32 2#32
  let main_v7 : IVec S4x1x224x224 32 := broadcastInDim S4x1x224x224 ![] bcast_S_S4x1x224x224 main_c_2
  let main_v8 : IVec S4x1x224x224 1 := cmpi .slt main_arg3 main_v7
  let main_v9 : IVec S4x1x224x224 1 := andi main_v6 main_v8
  let main_v10 : FVec F S3x128x3x3 .f32 := (extractStridedSlice S3x128x3x3 ![0, 3, 0, 0] · slices_S3x131x3x3_S3x128x3x3_0_3_0_0) main_arg6
  let main_v11 : FVec F S3x128x3x3 .f32 := Host.absf main_v10
  let main_cst : FVec F S_ .f32 := constant S_ .f32 0x7F800000#32
  let main_v12 : FVec F S3x128x3x3 .f32 := broadcastInDim S3x128x3x3 ![] bcast_S_S3x128x3x3 main_cst
  let main_v13 : IVec S3x128x3x3 1 := cmpf .olt main_v11 main_v12
  (main_v4, main_v9, main_v13)
-- ==== Pre_labels_in_range.lean ====
abbrev S4x3x224x224 : Shape := ⟨4, ![4, 3, 224, 224]⟩
abbrev S4x128 : Shape := ⟨2, ![4, 128]⟩
abbrev S4 : Shape := ⟨1, ![4]⟩
abbrev S4x1x224x224 : Shape := ⟨4, ![4, 1, 224, 224]⟩
abbrev S1000x64 : Shape := ⟨2, ![1000, 64]⟩
abbrev S1000x128 : Shape := ⟨2, ![1000, 128]⟩
abbrev S3x131x3x3 : Shape := ⟨4, ![3, 131, 3, 3]⟩
abbrev S3 : Shape := ⟨1, ![3]⟩
abbrev S192x3 : Shape := ⟨2, ![192, 3]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x3x224x224 .f32) (main_arg1 : FVec F S4x128 .f32) (main_arg2 : IVec S4 32) (main_arg3 : IVec S4x1x224x224 32) (main_arg4 : FVec F S1000x64 .f32) (main_arg5 : FVec F S1000x128 .f32) (main_arg6 : FVec F S3x131x3x3 .f32) (main_arg7 : FVec F S3 .f32) (main_arg8 : FVec F S192x3 .f32) (main_arg9 : FVec F S3 .f32) : IVec S4 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 1000#32
  let main_v2 : IVec S4 32 := broadcastInDim S4 ![] bcast_S_S4 main_c_0
  let main_v3 : IVec S4 1 := cmpi .slt main_arg2 main_v2
  let main_v4 : IVec S4 1 := andi main_v1 main_v3
  main_v4
-- ==== Kernel.lean ====
abbrev S4x3x224x224 : Shape := ⟨4, ![4, 3, 224, 224]⟩
abbrev S4x128 : Shape := ⟨2, ![4, 128]⟩
abbrev S4 : Shape := ⟨1, ![4]⟩
abbrev S4x1x224x224 : Shape := ⟨4, ![4, 1, 224, 224]⟩
abbrev S1000x64 : Shape := ⟨2, ![1000, 64]⟩
abbrev S1000x128 : Shape := ⟨2, ![1000, 128]⟩
abbrev S3x131x3x3 : Shape := ⟨4, ![3, 131, 3, 3]⟩
abbrev S3 : Shape := ⟨1, ![3]⟩
abbrev S192x3 : Shape := ⟨2, ![192, 3]⟩
abbrev S3x3x3x3 : Shape := ⟨4, ![3, 3, 3, 3]⟩
abbrev S27x3 : Shape := ⟨2, ![27, 3]⟩
abbrev S3x128x3x3 : Shape := ⟨4, ![3, 128, 3, 3]⟩
abbrev S3x3x3x128 : Shape := ⟨4, ![3, 3, 3, 128]⟩
abbrev S27x128 : Shape := ⟨2, ![27, 128]⟩
abbrev S2x128 : Shape := ⟨2, ![2, 128]⟩
abbrev S128x3 : Shape := ⟨2, ![128, 3]⟩
abbrev S64x3 : Shape := ⟨2, ![64, 3]⟩
abbrev S1x3 : Shape := ⟨2, ![1, 3]⟩
abbrev S1x3x224x224 : Shape := ⟨4, ![1, 3, 224, 224]⟩
abbrev S1x1x224x224 : Shape := ⟨4, ![1, 1, 224, 224]⟩
abbrev S8x224x224 : Shape := ⟨3, ![8, 224, 224]⟩
abbrev S224x224 : Shape := ⟨2, ![224, 224]⟩
abbrev S3x224x226 : Shape := ⟨3, ![3, 224, 226]⟩
abbrev S1 : Shape := ⟨1, ![1]⟩
abbrev S1x64 : Shape := ⟨2, ![1, 64]⟩
abbrev S1x1 : Shape := ⟨2, ![1, 1]⟩
abbrev S1x128 : Shape := ⟨2, ![1, 128]⟩
abbrev S27 : Shape := ⟨1, ![27]⟩
abbrev S27x1 : Shape := ⟨2, ![27, 1]⟩
abbrev S1x1x223x224 : Shape := ⟨4, ![1, 1, 223, 224]⟩
abbrev S223x224 : Shape := ⟨2, ![223, 224]⟩
abbrev S1x224 : Shape := ⟨2, ![1, 224]⟩
abbrev S1x1x224 : Shape := ⟨3, ![1, 1, 224]⟩
abbrev S1x223x224 : Shape := ⟨3, ![1, 223, 224]⟩
abbrev S1x224x224 : Shape := ⟨3, ![1, 224, 224]⟩
abbrev S9x1 : Shape := ⟨2, ![9, 1]⟩
abbrev S3x1 : Shape := ⟨2, ![3, 1]⟩
abbrev S1x1x1x224 : Shape := ⟨4, ![1, 1, 1, 224]⟩
abbrev S1x1x224x1 : Shape := ⟨4, ![1, 1, 224, 1]⟩
abbrev S224x1 : Shape := ⟨2, ![224, 1]⟩
abbrev S1x1x1x1 : Shape := ⟨4, ![1, 1, 1, 1]⟩

abbrev nBuf : Space → Nat
  | .hbm => 22
  | .vmem => 18
  | .smem => 1
  | _ => 0

abbrev bufTy : (tb : Table) → Fin (tcTables nBuf tb) → BufTy
  | .hbm, ⟨0, _⟩ => ⟨S4x3x224x224, .f32⟩
  | .hbm, ⟨1, _⟩ => ⟨S4x128, .f32⟩
  | .hbm, ⟨2, _⟩ => ⟨S4, .i32⟩
  | .hbm, ⟨3, _⟩ => ⟨S4x1x224x224, .i32⟩
  | .hbm, ⟨4, _⟩ => ⟨S1000x64, .f32⟩
  | .hbm, ⟨5, _⟩ => ⟨S1000x128, .f32⟩
  | .hbm, ⟨6, _⟩ => ⟨S3x131x3x3, .f32⟩
  | .hbm, ⟨7, _⟩ => ⟨S3, .f32⟩
  | .hbm, ⟨8, _⟩ => ⟨S192x3, .f32⟩
  | .hbm, ⟨9, _⟩ => ⟨S3, .f32⟩
  | .hbm, ⟨10, _⟩ => ⟨S3x3x3x3, .f32⟩
  | .hbm, ⟨11, _⟩ => ⟨S3x3x3x3, .f32⟩
  | .hbm, ⟨12, _⟩ => ⟨S27x3, .f32⟩
  | .hbm, ⟨13, _⟩ => ⟨S3x128x3x3, .f32⟩
  | .hbm, ⟨14, _⟩ => ⟨S3x3x3x128, .f32⟩
  | .hbm, ⟨15, _⟩ => ⟨S27x128, .f32⟩
  | .hbm, ⟨16, _⟩ => ⟨S2x128, .f32⟩
  | .hbm, ⟨17, _⟩ => ⟨S128x3, .f32⟩
  | .hbm, ⟨18, _⟩ => ⟨S64x3, .f32⟩
  | .hbm, ⟨19, _⟩ => ⟨S1x3, .f32⟩
  | .hbm, ⟨20, _⟩ => ⟨S1x3, .f32⟩
  | .hbm, ⟨21, _⟩ => ⟨S4x3x224x224, .f32⟩
  | .local _ .vmem, ⟨0, _⟩ => ⟨S1x3x224x224, .f32⟩
  | .local _ .vmem, ⟨1, _⟩ => ⟨S1x3x224x224, .f32⟩
  | .local _ .vmem, ⟨2, _⟩ => ⟨S1x1x224x224, .i32⟩
  | .local _ .vmem, ⟨3, _⟩ => ⟨S1x1x224x224, .i32⟩
  | .local _ .vmem, ⟨4, _⟩ => ⟨S4x128, .f32⟩
  | .local _ .vmem, ⟨5, _⟩ => ⟨S1000x64, .f32⟩
  | .local _ .vmem, ⟨6, _⟩ => ⟨S2x128, .f32⟩
  | .local _ .vmem, ⟨7, _⟩ => ⟨S27x3, .f32⟩
  | .local _ .vmem, ⟨8, _⟩ => ⟨S27x128, .f32⟩
  | .local _ .vmem, ⟨9, _⟩ => ⟨S128x3, .f32⟩
  | .local _ .vmem, ⟨10, _⟩ => ⟨S64x3, .f32⟩
  | .local _ .vmem, ⟨11, _⟩ => ⟨S1x3, .f32⟩
  | .local _ .vmem, ⟨12, _⟩ => ⟨S1x3, .f32⟩
  | .local _ .vmem, ⟨13, _⟩ => ⟨S1x3x224x224, .f32⟩
  | .local _ .vmem, ⟨14, _⟩ => ⟨S1x3x224x224, .f32⟩
  | .local _ .vmem, ⟨15, _⟩ => ⟨S8x224x224, .f32⟩
  | .local _ .vmem, ⟨16, _⟩ => ⟨S224x224, .f32⟩
  | .local _ .vmem, ⟨17, _⟩ => ⟨S3x224x226, .f32⟩
  | .local _ .smem, ⟨0, _⟩ => ⟨S4, .i32⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![4], ![false]⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v2 : Index := Scalar.indexCast v1
  let c0 : Index := 0#32
  ![v2.toNat, 0]

def k0_chk1 (v1 : BitVec 32) : Prop :=
  (∀ a, (k0_off2 v1) a + S1x64.size a ≤ S1000x64.size a)
theorem k0_off2_inb : ∀ (v1 : BitVec 32) (k0_hw1 : k0_chk1 v1), ∀ a, (k0_off2 v1) a + S1x64.size a ≤ S1000x64.size a := fun v1 k0_hw1 => k0_hw1

def k0_off3 (i : grid0.Coords) : Fin 2 → Nat :=
  let arg0 : BitVec 32 := BitVec.ofNat 32 (i 0).val
  let v39 : Index := Scalar.indexCast arg0
  let c0_11 : Index := 0#32
  ![v39.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x3x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x224x224 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S27x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S27x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x3x224x224 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x3x224x224 : Shape := ⟨4, ![4, 3, 224, 224]⟩
abbrev S4x128 : Shape := ⟨2, ![4, 128]⟩
abbrev S4 : Shape := ⟨1, ![4]⟩
abbrev S4x1x224x224 : Shape := ⟨4, ![4, 1, 224, 224]⟩
abbrev S1000x64 : Shape := ⟨2, ![1000, 64]⟩
abbrev S1000x128 : Shape := ⟨2, ![1000, 128]⟩
abbrev S3x131x3x3 : Shape := ⟨4, ![3, 131, 3, 3]⟩
abbrev S3 : Shape := ⟨1, ![3]⟩
abbrev S192x3 : Shape := ⟨2, ![192, 3]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x64 : Shape := ⟨2, ![4, 64]⟩
abbrev S4x224x224 : Shape := ⟨3, ![4, 224, 224]⟩
abbrev S4x50176 : Shape := ⟨2, ![4, 50176]⟩
abbrev S4x50176x1 : Shape := ⟨3, ![4, 50176, 1]⟩
abbrev S1x1x1 : Shape := ⟨3, ![1, 1, 1]⟩
abbrev S4x50176x128 : Shape := ⟨3, ![4, 50176, 128]⟩
abbrev S4x224x224x128 : Shape := ⟨4, ![4, 224, 224, 128]⟩
abbrev S4x128x224x224 : Shape := ⟨4, ![4, 128, 224, 224]⟩
abbrev S4x192 : Shape := ⟨2, ![4, 192]⟩
abbrev S4x131x224x224 : Shape := ⟨4, ![4, 131, 224, 224]⟩
abbrev S4x131x226x226 : Shape := ⟨4, ![4, 131, 226, 226]⟩
abbrev S3x131x1x1 : Shape := ⟨4, ![3, 131, 1, 1]⟩
abbrev S3x131 : Shape := ⟨2, ![3, 131]⟩
abbrev S4x224x224x3 : Shape := ⟨4, ![4, 224, 224, 3]⟩
abbrev S1x3x1x1 : Shape := ⟨4, ![1, 3, 1, 1]⟩
abbrev S4x3 : Shape := ⟨2, ![4, 3]⟩
abbrev S1x3 : Shape := ⟨2, ![1, 3]⟩
abbrev S4x3x1x1 : Shape := ⟨4, ![4, 3, 1, 1]⟩

abbrev nBuf : Space → Nat
  | .hbm => 154
  | .vmem => 0
  | .smem => 0
  | _ => 0

abbrev hbmTy0_0 (i : Nat) : BufTy := match i % 128 with
  | 0 => ⟨S4x3x224x224, .f32⟩
  | 1 => ⟨S4x128, .f32⟩
  | 2 => ⟨S4, .i32⟩
  | 3 => ⟨S4x1x224x224, .i32⟩
  | 4 => ⟨S1000x64, .f32⟩
  | 5 => ⟨S1000x128, .f32⟩
  | 6 => ⟨S3x131x3x3, .f32⟩
  | 7 => ⟨S3, .f32⟩
  | 8 => ⟨S192x3, .f32⟩
  | 9 => ⟨S3, .f32⟩
  | 10 => ⟨S_, .i32⟩
  | 11 => ⟨S4, .i32⟩
  | 12 => ⟨S4, .i1⟩
  | 13 => ⟨S_, .i32⟩
  | 14 => ⟨S4, .i32⟩
  | 15 => ⟨S4, .i32⟩
  | 16 => ⟨S4, .i32⟩
  | 17 => ⟨S4x1, .i32⟩
  | 18 => ⟨S1, .i32⟩
  | 19 => ⟨S_, .i32⟩
  | 20 => ⟨S4x1, .i32⟩
  | 21 => ⟨S4x1, .i1⟩
  | 22 => ⟨S1x1, .i32⟩
  | 23 => ⟨S4x1, .i32⟩
  | 24 => ⟨S4x1, .i1⟩
  | 25 => ⟨S4x1, .i1⟩
  | 26 => ⟨S_, .i1⟩
  | 27 => ⟨S4, .i1⟩
  | 28 => ⟨S4x64, .f32⟩
  | 29 => ⟨S4x64, .i1⟩
  | 30 => ⟨S_, .f32⟩
  | 31 => ⟨S4x64, .f32⟩
  | 32 => ⟨S4x64, .f32⟩
  | 33 => ⟨S4x64, .f32⟩
  | 34 => ⟨S_, .f32⟩
  | 35 => ⟨S4, .f32⟩
  | 36 => ⟨S4x1, .f32⟩
  | 37 => ⟨S4x1, .f32⟩
  | 38 => ⟨S_, .f32⟩
  | 39 => ⟨S4x1, .f32⟩
  | 40 => ⟨S4x1, .f32⟩
  | 41 => ⟨S_, .f32⟩
  | 42 => ⟨S4x1, .f32⟩
  | 43 => ⟨S4x1, .f32⟩
  | 44 => ⟨S4x64, .f32⟩
  | 45 => ⟨S4x64, .f32⟩
  | 46 => ⟨S4x224x224, .i32⟩
  | 47 => ⟨S4x50176, .i32⟩
  | 48 => ⟨S_, .i32⟩
  | 49 => ⟨S4x50176, .i32⟩
  | 50 => ⟨S4x50176, .i1⟩
  | 51 => ⟨S_, .i32⟩
  | 52 => ⟨S4x50176, .i32⟩
  | 53 => ⟨S4x50176, .i32⟩
  | 54 => ⟨S4x50176, .i32⟩
  | 55 => ⟨S4x50176x1, .i32⟩
  | 56 => ⟨S1, .i32⟩
  | 57 => ⟨S_, .i32⟩
  | 58 => ⟨S4x50176x1, .i32⟩
  | 59 => ⟨S4x50176x1, .i1⟩
  | 60 => ⟨S1x1x1, .i32⟩
  | 61 => ⟨S4x50176x1, .i32⟩
  | 62 => ⟨S4x50176x1, .i1⟩
  | 63 => ⟨S4x50176x1, .i1⟩
  | 64 => ⟨S_, .i1⟩
  | 65 => ⟨S4x50176, .i1⟩
  | 66 => ⟨S4x50176x128, .f32⟩
  | 67 => ⟨S4x50176x128, .i1⟩
  | 68 => ⟨S_, .f32⟩
  | 69 => ⟨S4x50176x128, .f32⟩
  | 70 => ⟨S4x50176x128, .f32⟩
  | 71 => ⟨S4x50176x128, .f32⟩
  | 72 => ⟨S_, .f32⟩
  | 73 => ⟨S4x50176, .f32⟩
  | 74 => ⟨S4x50176x1, .f32⟩
  | 75 => ⟨S4x50176x1, .f32⟩
  | 76 => ⟨S_, .f32⟩
  | 77 => ⟨S4x50176x1, .f32⟩
  | 78 => ⟨S4x50176x1, .f32⟩
  | 79 => ⟨S_, .f32⟩
  | 80 => ⟨S4x50176x1, .f32⟩
  | 81 => ⟨S4x50176x1, .f32⟩
  | 82 => ⟨S4x50176x128, .f32⟩
  | 83 => ⟨S4x50176x128, .f32⟩
  | 84 => ⟨S4x224x224x128, .f32⟩
  | 85 => ⟨S4x128x224x224, .f32⟩
  | 86 => ⟨S4x192, .f32⟩
  | 87 => ⟨S4x131x224x224, .f32⟩
  | 88 => ⟨S_, .i32⟩
  | 89 => ⟨S_, .f32⟩
  | 90 => ⟨S4x131x226x226, .f32⟩
  | 91 => ⟨S3x131x1x1, .f32⟩
  | 92 => ⟨S3x131, .f32⟩
  | 93 => ⟨S4x131x224x224, .f32⟩
  | 94 => ⟨S4x224x224x3, .f32⟩
  | 95 => ⟨S4x3x224x224, .f32⟩
  | 96 => ⟨S3x131x1x1, .f32⟩
  | 97 => ⟨S3x131, .f32⟩
  | 98 => ⟨S4x131x224x224, .f32⟩
  | 99 => ⟨S4x224x224x3, .f32⟩
  | 100 => ⟨S4x3x224x224, .f32⟩
  | 101 => ⟨S4x3x224x224, .f32⟩
  | 102 => ⟨S3x131x1x1, .f32⟩
  | 103 => ⟨S3x131, .f32⟩
  | 104 => ⟨S4x131x224x224, .f32⟩
  | 105 => ⟨S4x224x224x3, .f32⟩
  | 106 => ⟨S4x3x224x224, .f32⟩
  | 107 => ⟨S4x3x224x224, .f32⟩
  | 108 => ⟨S3x131x1x1, .f32⟩
  | 109 => ⟨S3x131, .f32⟩
  | 110 => ⟨S4x131x224x224, .f32⟩
  | 111 => ⟨S4x224x224x3, .f32⟩
  | 112 => ⟨S4x3x224x224, .f32⟩
  | 113 => ⟨S4x3x224x224, .f32⟩
  | 114 => ⟨S3x131x1x1, .f32⟩
  | 115 => ⟨S3x131, .f32⟩
  | 116 => ⟨S4x131x224x224, .f32⟩
  | 117 => ⟨S4x224x224x3, .f32⟩
  | 118 => ⟨S4x3x224x224, .f32⟩
  | 119 => ⟨S4x3x224x224, .f32⟩
  | 120 => ⟨S3x131x1x1, .f32⟩
  | 121 => ⟨S3x131, .f32⟩
  | 122 => ⟨S4x131x224x224, .f32⟩
  | 123 => ⟨S4x224x224x3, .f32⟩
  | 124 => ⟨S4x3x224x224, .f32⟩
  | 125 => ⟨S4x3x224x224, .f32⟩
  | 126 => ⟨S3x131x1x1, .f32⟩
  | 127 => ⟨S3x131, .f32⟩
  | _ => ⟨S4x3x224x224, .f32⟩

abbrev hbmTy0_1 (i : Nat) : BufTy := match i % 128 with
  | 0 => ⟨S4x131x224x224, .f32⟩
  | 1 => ⟨S4x224x224x3, .f32⟩
  | 2 => ⟨S4x3x224x224, .f32⟩
  | 3 => ⟨S4x3x224x224, .f32⟩
  | 4 => ⟨S3x131x1x1, .f32⟩
  | 5 => ⟨S3x131, .f32⟩
  | 6 => ⟨S4x131x224x224, .f32⟩
  | 7 => ⟨S4x224x224x3, .f32⟩
  | 8 => ⟨S4x3x224x224, .f32⟩
  | 9 => ⟨S4x3x224x224, .f32⟩
  | 10 => ⟨S3x131x1x1, .f32⟩
  | 11 => ⟨S3x131, .f32⟩
  | 12 => ⟨S4x131x224x224, .f32⟩
  | 13 => ⟨S4x224x224x3, .f32⟩
  | 14 => ⟨S4x3x224x224, .f32⟩
  | 15 => ⟨S4x3x224x224, .f32⟩
  | 16 => ⟨S1x3x1x1, .f32⟩
  | 17 => ⟨S4x3x224x224, .f32⟩
  | 18 => ⟨S4x3x224x224, .f32⟩
  | 19 => ⟨S4x3, .f32⟩
  | 20 => ⟨S1x3, .f32⟩
  | 21 => ⟨S4x3, .f32⟩
  | 22 => ⟨S4x3, .f32⟩
  | 23 => ⟨S4x3x1x1, .f32⟩
  | 24 => ⟨S4x3x224x224, .f32⟩
  | 25 => ⟨S4x3x224x224, .f32⟩
  | _ => ⟨S4x3x224x224, .f32⟩

abbrev hbmTy (i : Nat) : BufTy := match i / 128 with
  | 0 => hbmTy0_0 i
  | 1 => hbmTy0_1 i
  | _ => ⟨S4x3x224x224, .f32⟩

abbrev bufTy : (tb : Table) → Fin (tcTables nBuf tb) → BufTy
  | .hbm, ⟨i, _⟩ => hbmTy i
  | _, _ => ⟨S4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_cst : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_cst_0 : Ref sig .tc := ⟨.hbm, 38, rfl⟩
abbrev main_v5 : Ref sig .tc := ⟨.hbm, 39, rfl⟩
abbrev main_v6 : Ref sig .tc := ⟨.hbm, 40, rfl⟩
abbrev main_cst_1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v13 : Ref sig .tc := ⟨.hbm, 70, rfl⟩
abbrev main_v14 : Ref sig .tc := ⟨.hbm, 71, rfl⟩
abbrev main_cst_2 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_cst_3 : Ref sig .tc := ⟨.hbm, 76, rfl⟩
abbrev main_v18 : Ref sig .tc := ⟨.hbm, 77, rfl⟩
abbrev main_v19 : Ref sig .tc := ⟨.hbm, 78, rfl⟩
abbrev main_cst_4 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_c : Ref sig .tc := ⟨.hbm, 88, rfl⟩
abbrev main_call2_v0 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩

abbrev nD : Nat := 1
abbrev τ : Topo := Topo.v7x

variable {F : FTy → Type} [FloatOps F]
-- ==== Proof.RunIdeal.lean ====
/- The kernel's body run once, at any grid point and any staging buffers: what its stores leave in the output
   block and in the three scratch buffers, each named by the steps of the run. -/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body on whole staging buffers: the twelve inputs hold `x0 … x11`, the output and the scratches anything, and the
    label of this image's class names a row of the class table (`hrow`). The body ends with the inputs as they were, the
    output with the pieces `L12` written over it and the scratches with `LT0`, `LT1`, `LT2`. The lists are the witness
    that the run finds. -/
noncomputable def bodyRun (c : Dev nD) (i : grid0.Coords)
    (arg1 : Memref sig .tc .smem S4 .i32) (harg1 : arg1.IsWhole)
    (arg2 : Memref sig .tc .vmem S1x3x224x224 .f32) (harg2 : arg2.IsWhole)
    (arg3 : Memref sig .tc .vmem S1x1x224x224 .i32) (harg3 : arg3.IsWhole)
    (arg4 : Memref sig .tc .vmem S4x128 .f32) (harg4 : arg4.IsWhole)
    (arg5 : Memref sig .tc .vmem S1000x64 .f32) (harg5 : arg5.IsWhole)
    (arg6 : Memref sig .tc .vmem S2x128 .f32) (harg6 : arg6.IsWhole)
    (arg7 : Memref sig .tc .vmem S27x3 .f32) (harg7 : arg7.IsWhole)
    (arg8 : Memref sig .tc .vmem S27x128 .f32) (harg8 : arg8.IsWhole)
    (arg9 : Memref sig .tc .vmem S128x3 .f32) (harg9 : arg9.IsWhole)
    (arg10 : Memref sig .tc .vmem S64x3 .f32) (harg10 : arg10.IsWhole)
    (arg11 : Memref sig .tc .vmem S1x3 .f32) (harg11 : arg11.IsWhole)
    (arg12 : Memref sig .tc .vmem S1x3 .f32) (harg12 : arg12.IsWhole)
    (arg13 : Memref sig .tc .vmem S1x3x224x224 .f32) (harg13 : arg13.IsWhole)
    (arg14 : Memref sig .tc .vmem S8x224x224 .f32) (harg14 : arg14.IsWhole)
    (arg15 : Memref sig .tc .vmem S224x224 .f32) (harg15 : arg15.IsWhole)
    (arg16 : Memref sig .tc .vmem S3x224x226 .f32) (harg16 : arg16.IsWhole)
    (x0 : Vec F S4 .i32) (x1 : Vec F S1x3x224x224 .f32) (x2 : Vec F S1x1x224x224 .i32) (x3 : Vec F S4x128 .f32) (x4 : Vec F S1000x64 .f32) (x5 : Vec F S2x128 .f32) (x6 : Vec F S27x3 .f32) (x7 : Vec F S27x128 .f32) (x8 : Vec F S128x3 .f32) (x9 : Vec F S64x3 .f32) (x10 : Vec F S1x3 .f32) (x11 : Vec F S1x3 .f32) (hrow : k0_chk1 (arg1.view.readAt (Elt F) (Rect.unit (s := S4) (k0_off1 i) S1.size (k0_off1_inb i)).toLoadRect (harg1.unread x0) (Shape.Idx.first (numel1_S1.symm ▸ Nat.one_pos)))) :
    Σ' (L12 : List (View.Piece (Elt F) S1x3x224x224 .f32)), Σ' (LT0 : List (View.Piece (Elt F) S8x224x224 .f32)), Σ' (LT1 : List (View.Piece (Elt F) S224x224 .f32)), { LT2 : List (View.Piece (Elt F) S3x224x226 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ (∃ f, arg16.view.loc (c : Thread nD τ) ↦[arg16.view.set]{fullShare} arg16.view.writes (Elt F) f LT2)) -∗ K ⟨⟩))
          ⊢ wp frame (wpE (defs₀ (F := F)) Variants.none c none) E (cc0__denoise_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__denoise_kernel_eq_skeleton]; unfold cc0__denoise_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hrow)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [HS0]; · iexists _; iexact HS0
    isplitl [HS1]; · iexists _; iexact HS1
    iexists _; iexact HS2

end Cert.KernelIdeal.Body

end
-- ==== Proof.FrameIdeal.lean ====
/- The frame: the proof data of the pipeline, the body obligation at a generic grid point, and the run of the whole
   program, which ends with the arguments unchanged and every semaphore counter at zero. -/
module

public import proofs.«01_k».proof.Proof.RunIdeal
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

section Block

variable (c : Dev nD) (i : grid0.Coords)
    (arg1 : Memref sig .tc .smem S4 .i32) (harg1 : arg1.IsWhole)
    (arg2 : Memref sig .tc .vmem S1x3x224x224 .f32) (harg2 : arg2.IsWhole)
    (arg3 : Memref sig .tc .vmem S1x1x224x224 .i32) (harg3 : arg3.IsWhole)
    (arg4 : Memref sig .tc .vmem S4x128 .f32) (harg4 : arg4.IsWhole)
    (arg5 : Memref sig .tc .vmem S1000x64 .f32) (harg5 : arg5.IsWhole)
    (arg6 : Memref sig .tc .vmem S2x128 .f32) (harg6 : arg6.IsWhole)
    (arg7 : Memref sig .tc .vmem S27x3 .f32) (harg7 : arg7.IsWhole)
    (arg8 : Memref sig .tc .vmem S27x128 .f32) (harg8 : arg8.IsWhole)
    (arg9 : Memref sig .tc .vmem S128x3 .f32) (harg9 : arg9.IsWhole)
    (arg10 : Memref sig .tc .vmem S64x3 .f32) (harg10 : arg10.IsWhole)
    (arg11 : Memref sig .tc .vmem S1x3 .f32) (harg11 : arg11.IsWhole)
    (arg12 : Memref sig .tc .vmem S1x3 .f32) (harg12 : arg12.IsWhole)
    (arg13 : Memref sig .tc .vmem S1x3x224x224 .f32) (harg13 : arg13.IsWhole)
    (arg14 : Memref sig .tc .vmem S8x224x224 .f32) (harg14 : arg14.IsWhole)
    (arg15 : Memref sig .tc .vmem S224x224 .f32) (harg15 : arg15.IsWhole)
    (arg16 : Memref sig .tc .vmem S3x224x226 .f32) (harg16 : arg16.IsWhole)
    (x0 : Vec F S4 .i32) (x1 : Vec F S1x3x224x224 .f32) (x2 : Vec F S1x1x224x224 .i32) (x3 : Vec F S4x128 .f32) (x4 : Vec F S1000x64 .f32) (x5 : Vec F S2x128 .f32) (x6 : Vec F S27x3 .f32) (x7 : Vec F S27x128 .f32) (x8 : Vec F S128x3 .f32) (x9 : Vec F S64x3 .f32) (x10 : Vec F S1x3 .f32) (x11 : Vec F S1x3 .f32) (hrow : k0_chk1 (arg1.view.readAt (Elt F) (Rect.unit (s := S4) (k0_off1 i) S1.size (k0_off1_inb i)).toLoadRect (harg1.unread x0) (Shape.Idx.first (numel1_S1.symm ▸ Nat.one_pos))))

/-- The pieces the body stores cover the output block: channel `o`'s first store fills the channel. -/
theorem block_covered (y : S1x3x224x224.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 hrow).1, y ∈ pc.1.set := by
  have h0 : (y 0).val < 1 := (y 0).isLt
  have h1 : (y 1).val < 3 := (y 1).isLt
  have h2 : (y 2).val < 224 := (y 2).isLt
  have h3 : (y 3).val < 224 := (y 3).isLt
  unfold bodyRun
  dsimp only
  simp only [bodyRun.sl.H12_26, bodyRun.sl.H12_25, bodyRun.sl.H12_24, bodyRun.sl.H12_23, bodyRun.sl.H12_22, bodyRun.sl.H12_21, bodyRun.sl.H12_20, bodyRun.sl.H12_19, bodyRun.sl.H12_17, bodyRun.sl.H12_16, bodyRun.sl.H12_15, bodyRun.sl.H12_14, bodyRun.sl.H12_13, bodyRun.sl.H12_12, bodyRun.sl.H12_11, bodyRun.sl.H12_10, bodyRun.sl.H12_8, bodyRun.sl.H12_7, bodyRun.sl.H12_6, bodyRun.sl.H12_5, bodyRun.sl.H12_4, bodyRun.sl.H12_3, bodyRun.sl.H12_2, bodyRun.sl.H12_1]
  have key : (y 1).val = 2 ∨ (y 1).val = 1 ∨ (y 1).val = 0 := by omega
  have inside : ∀ (o : ℕ) (inb : ∀ a, (![0, o, 0, 0] : Fin 4 → ℕ) a + S1x1x224x224.size a ≤ S1x3x224x224.size a), (y 1).val = o →
      y ∈ (Rect.unit (s := S1x3x224x224) ![0, o, 0, 0] S1x1x224x224.size inb).set := by
    intro o inb ho
    rw [Rect.mem_set_unit]
    intro a
    fin_cases a
    · exact ⟨Nat.zero_le _, h0⟩
    · exact ⟨ho.ge, by show (y 1).val < o + 1; omega⟩
    · exact ⟨Nat.zero_le _, by show (y 2).val < 0 + 224; omega⟩
    · exact ⟨Nat.zero_le _, by show (y 3).val < 0 + 224; omega⟩
  rcases key with h | h | h
  · refine ⟨⟨Rect.unit (s := S1x3x224x224) ![0, 2, 0, 0] S1x1x224x224.size inb_S1x3x224x224_S1x1x224x224_0_2_0_0, ?w2⟩, ?hm2, inside 2 inb_S1x3x224x224_S1x1x224x224_0_2_0_0 h⟩
    case hm2 =>
      iterate 8 refine List.mem_cons_of_mem _ ?_
      exact List.mem_cons_self
  · refine ⟨⟨Rect.unit (s := S1x3x224x224) ![0, 1, 0, 0] S1x1x224x224.size inb_S1x3x224x224_S1x1x224x224_0_1_0_0, ?w1⟩, ?hm1, inside 1 inb_S1x3x224x224_S1x1x224x224_0_1_0_0 h⟩
    case hm1 =>
      iterate 17 refine List.mem_cons_of_mem _ ?_
      exact List.mem_cons_self
  · refine ⟨⟨Rect.unit (s := S1x3x224x224) ![0, 0, 0, 0] S1x1x224x224.size inb_S1x3x224x224_S1x1x224x224_0_0_0_0, ?w0⟩, ?hm0, inside 0 inb_S1x3x224x224_S1x1x224x224_0_0_0_0 h⟩
    case hm0 =>
      iterate 26 refine List.mem_cons_of_mem _ ?_
      exact List.mem_cons_self

/-- A view of the output block's shape to read the pieces back through. -/
abbrev outView : View sig .tc .vmem S1x3x224x224 .f32 := (Memref.whole cc0_stg12_0 : Memref sig .tc .vmem S1x3x224x224 .f32).view

/-- The output block after the body: its pieces read back. -/
def blockOut : Vec F S1x3x224x224 .f32 :=
  outView.read (Elt F) (outView.writes (Elt F) outView.junk (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
    x0 x1 x2 x3 x4 x5 x6 x7 x8 x9 x10 x11 hrow).1)

end Block

/-! ## The staging buffers of a grid point -/

abbrev ms0_0 (t : Fin cfg0.N) : Memref sig .tc .smem S4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x224x224 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x224x224 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1000x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S27x3 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S27x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x3 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x3 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x3 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x3 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x3x224x224 .f32 := win0_12.stage (cfg0.slots t 12)
abbrev hs0_12 (t : Fin cfg0.N) : (ms0_12 t).IsWhole := hstage0_12 ((cfg0.slots t 12).cast nbuf0_12)

/-- At every grid point the class label the body loads names a row of the class table. -/
def LabelRows : Prop :=
  ∀ (c : Dev nD) (t : Fin cfg0.N),
    k0_chk1 ((ms0_0 t).view.readAt (Elt F) (Rect.unit (s := S4) (k0_off1 (grid0.coords t)) S1.size (k0_off1_inb (grid0.coords t))).toLoadRect ((hs0_0 t).unread (iblk m c 0 t)) (Shape.Idx.first (numel1_S1.symm ▸ Nat.one_pos)))

/-- The scratch operands: whole scoped buffers of the kernel's own, passed beside the windows. -/
abbrev scM0_0 : Memref sig .tc .vmem S8x224x224 .f32 := Memref.whole cc0_scratch0
abbrev scM0_1 : Memref sig .tc .vmem S224x224 .f32 := Memref.whole cc0_scratch1
abbrev scM0_2 : Memref sig .tc .vmem S3x224x226 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## What the outputs hold after each point -/

/-- What the outputs' staging buffers hold after the body at point `t`: the run's contents at
    the point's memrefs and input blocks. -/
def outAt (hH : LabelRows m) (c : Dev nD) (t : Fin cfg0.N) : Vec F S1x3x224x224 .f32 :=
  blockOut c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (hH c t)

/-! ## The pipeline's proof data -/

/-- The proof data of the one pipeline on core `c`: the arrays as the region finds them (`V`); after the body at
    point `t` each input's buffer at its block and the outputs' at `outAt`; the invariant the class's
    (Lib/Pipeline/Frame.lean `ΦA`: the scoped rest and the generator register); nothing owed; full shares. -/
def dats (hH : LabelRows m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outAt m hH c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : LabelRows m) (c : Dev nD) (w : Fin cfg0.W) : (dats m hH 0 c).A w = V m c (Pipeline.arrRef spec0 w) := by
  dsimp only [dats]

/-- What the body leaves, window by window (the proof data's `match` reduced by `dsimp`). -/
theorem after0_0 (hH : LabelRows m) (c : Dev nD) (t : Fin cfg0.N) : (dats m hH 0 c).after 0 t = iblk m c 0 t := by dsimp only [dats]
theorem after0_1 (hH : LabelRows m) (c : Dev nD) (t : Fin cfg0.N) : (dats m hH 0 c).after 1 t = iblk m c 1 t := by dsimp only [dats]
theorem after0_2 (hH : LabelRows m) (c : Dev nD) (t : Fin cfg0.N) : (dats m hH 0 c).after 2 t = iblk m c 2 t := by dsimp only [dats]
theorem after0_3 (hH : LabelRows m) (c : Dev nD) (t : Fin cfg0.N) : (dats m hH 0 c).after 3 t = iblk m c 3 t := by dsimp only [dats]
theorem after0_4 (hH : LabelRows m) (c : Dev nD) (t : Fin cfg0.N) : (dats m hH 0 c).after 4 t = iblk m c 4 t := by dsimp only [dats]
theorem after0_5 (hH : LabelRows m) (c : Dev nD) (t : Fin cfg0.N) : (dats m hH 0 c).after 5 t = iblk m c 5 t := by dsimp only [dats]
theorem after0_6 (hH : LabelRows m) (c : Dev nD) (t : Fin cfg0.N) : (dats m hH 0 c).after 6 t = iblk m c 6 t := by dsimp only [dats]
theorem after0_7 (hH : LabelRows m) (c : Dev nD) (t : Fin cfg0.N) : (dats m hH 0 c).after 7 t = iblk m c 7 t := by dsimp only [dats]
theorem after0_8 (hH : LabelRows m) (c : Dev nD) (t : Fin cfg0.N) : (dats m hH 0 c).after 8 t = iblk m c 8 t := by dsimp only [dats]
theorem after0_9 (hH : LabelRows m) (c : Dev nD) (t : Fin cfg0.N) : (dats m hH 0 c).after 9 t = iblk m c 9 t := by dsimp only [dats]
theorem after0_10 (hH : LabelRows m) (c : Dev nD) (t : Fin cfg0.N) : (dats m hH 0 c).after 10 t = iblk m c 10 t := by dsimp only [dats]
theorem after0_11 (hH : LabelRows m) (c : Dev nD) (t : Fin cfg0.N) : (dats m hH 0 c).after 11 t = iblk m c 11 t := by dsimp only [dats]
theorem after0_12 (hH : LabelRows m) (c : Dev nD) (t : Fin cfg0.N) : (dats m hH 0 c).after 12 t = (outAt m hH c t) := by dsimp only [dats]

/-- Each input's current staging buffer holds its block at every point, fetched there or not (`beforeK_W_of`). -/
theorem before0_0 (hH : LabelRows m) (c : Dev nD) (t : Fin cfg0.N) (d) : (dats m hH 0 c).before 0 t d = iblk m c 0 t :=
  before0_0_of m (dats m hH 0 c) (A_eq m hH c 0) (after0_0 m hH c) t d
theorem before0_1 (hH : LabelRows m) (c : Dev nD) (t : Fin cfg0.N) (d) : (dats m hH 0 c).before 1 t d = iblk m c 1 t :=
  before0_1_of m (dats m hH 0 c) (A_eq m hH c 1) (after0_1 m hH c) t d
theorem before0_2 (hH : LabelRows m) (c : Dev nD) (t : Fin cfg0.N) (d) : (dats m hH 0 c).before 2 t d = iblk m c 2 t :=
  before0_2_of m (dats m hH 0 c) (A_eq m hH c 2) (after0_2 m hH c) t d
theorem before0_3 (hH : LabelRows m) (c : Dev nD) (t : Fin cfg0.N) (d) : (dats m hH 0 c).before 3 t d = iblk m c 3 t :=
  before0_3_of m (dats m hH 0 c) (A_eq m hH c 3) (after0_3 m hH c) t d
theorem before0_4 (hH : LabelRows m) (c : Dev nD) (t : Fin cfg0.N) (d) : (dats m hH 0 c).before 4 t d = iblk m c 4 t :=
  before0_4_of m (dats m hH 0 c) (A_eq m hH c 4) (after0_4 m hH c) t d
theorem before0_5 (hH : LabelRows m) (c : Dev nD) (t : Fin cfg0.N) (d) : (dats m hH 0 c).before 5 t d = iblk m c 5 t :=
  before0_5_of m (dats m hH 0 c) (A_eq m hH c 5) (after0_5 m hH c) t d
theorem before0_6 (hH : LabelRows m) (c : Dev nD) (t : Fin cfg0.N) (d) : (dats m hH 0 c).before 6 t d = iblk m c 6 t :=
  before0_6_of m (dats m hH 0 c) (A_eq m hH c 6) (after0_6 m hH c) t d
theorem before0_7 (hH : LabelRows m) (c : Dev nD) (t : Fin cfg0.N) (d) : (dats m hH 0 c).before 7 t d = iblk m c 7 t :=
  before0_7_of m (dats m hH 0 c) (A_eq m hH c 7) (after0_7 m hH c) t d
theorem before0_8 (hH : LabelRows m) (c : Dev nD) (t : Fin cfg0.N) (d) : (dats m hH 0 c).before 8 t d = iblk m c 8 t :=
  before0_8_of m (dats m hH 0 c) (A_eq m hH c 8) (after0_8 m hH c) t d
theorem before0_9 (hH : LabelRows m) (c : Dev nD) (t : Fin cfg0.N) (d) : (dats m hH 0 c).before 9 t d = iblk m c 9 t :=
  before0_9_of m (dats m hH 0 c) (A_eq m hH c 9) (after0_9 m hH c) t d
theorem before0_10 (hH : LabelRows m) (c : Dev nD) (t : Fin cfg0.N) (d) : (dats m hH 0 c).before 10 t d = iblk m c 10 t :=
  before0_10_of m (dats m hH 0 c) (A_eq m hH c 10) (after0_10 m hH c) t d
theorem before0_11 (hH : LabelRows m) (c : Dev nD) (t : Fin cfg0.N) (d) : (dats m hH 0 c).before 11 t d = iblk m c 11 t :=
  before0_11_of m (dats m hH 0 c) (A_eq m hH c 11) (after0_11 m hH c) t d

/-! ## The body obligation, at a generic point -/

/-- What the body is called with at point `t` (Lib/Pipeline.lean `BodyObligation`'s precondition, the windows one by one), -/
def bodyPre (hH : LabelRows m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d))
    ∗ (∃ d, owns (c : Thread nD τ) (ms0_11 t) fullShare ((dats m hH 0 c).before 11 t d))
    ∗ (∃ d, owns (c : Thread nD τ) (ms0_12 t) fullShare ((dats m hH 0 c).before 12 t d)))

/-- and what it returns. -/
def bodyPost (hH : LabelRows m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t)
    ∗ owns (c : Thread nD τ) (ms0_10 t) fullShare ((dats m hH 0 c).after 10 t)
    ∗ owns (c : Thread nD τ) (ms0_11 t) fullShare ((dats m hH 0 c).after 11 t)
    ∗ owns (c : Thread nD τ) (ms0_12 t) fullShare ((dats m hH 0 c).after 12 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hH : LabelRows m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8, before0_9, before0_10, before0_11]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10, after0_11, after0_12]
  rw [show (dats m hH 0 c).Φ t.castSucc = Pipeline.ΦA spec0 c from rfl, PhiA0_eq]
  unfold outAt
  unfold blockOut
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((bodyRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (hH c t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [HS0]; · iexact HS0
  isplitl [HS1]; · iexact HS1
  isplitl [HS2]; · iexact HS2
  iintro ⟨H0, H1, H2, H3, H4, H5, H6, H7, H8, H9, H10, H11, ⟨%e12, H12⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold owns; iexists _; isplitr
  swap; · iexact H12
  ipureintro; exact View.read_writes_of_cover _ _ _ _ _ (block_covered c _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : LabelRows m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : LabelRows m) : θ_run defs (onTc (τ := τ) (main (F := F))) (s₀ m ρ) (fun r => (Pipeline.FramePost cfgs (dats m hH) 0 (V m)) r ∧ r.2.sem = fun _ => 0) :=
  Pipeline.θ_run_frame (Q' := _) cfgs (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hH : LabelRows m) : θ_run defs (onTc (τ := τ) (main (F := F))) (s₀ m ρ) (Pipeline.FramePost cfgs (dats m hH) 0 (V m)) :=
  (θ_run defs _ _).mono (fun _ h => h.1) (run_main_quiescent m ρ hH)

/-- `frame` without the counters: the argument arrays end unchanged. -/
theorem unchanged (hH : LabelRows m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m hH) (A_eq m hH) (run_main m ρ hH)

/-- The frame: under `LabelRows` every run ends with the arguments unchanged and every semaphore counter at zero. -/
theorem frame (hH : LabelRows m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hH) ((θ_run defs _ _).mono (fun _ h => h.2) (run_main_quiescent m ρ hH))

end Cert.KernelIdeal.Body

end
-- ==== Proof.LabelsIdeal.lean ====
module

public import proofs.«01_k».proof.Proof.FrameIdeal
public import proofs.«01_k».proof.Defs
public import proofs.«01_k».proof.Proof.Gen.Pre_labels_in_range
public import proofs.«01_k».proof.Proof.Gen.Pre_labels_and_weights

/-! The class labels that the assumption keeps in [0, 1000) name rows of the class table. -/

@[expose] public section

set_option maxRecDepth 16384

noncomputable section

namespace Cert.KernelIdeal.Body
open Idealize.ShloMosaic Idealize.SL.Sem Cert.KernelIdeal Cert.KernelIdeal.Gen

/-- A word below 1000 names a row of the class table. -/
theorem row_of_lt (v : BitVec 32) (h : v.toNat < 1000) : k0_chk1 v := by
  have e : (Scalar.indexCast v).toNat = v.toNat := by
    simp [Scalar.indexCast]
  intro a
  refine Fin.cases ?_ (fun b => Fin.cases ?_ (fun d => d.elim0) b) a
  · show (Scalar.indexCast v).toNat + 1 ≤ 1000
    omega
  · show 0 + 64 ≤ 64
    omega

section
variable {F : FTy → Type} [FloatOps F]

/-- Labels below 1000 in memory are labels that name rows at every grid point. -/
theorem labelRows_of_lt (m : (ℓ : Loc nD τ sig) → Buf (Elt F) ℓ)
    (h : ∀ (c : Dev nD) (y : S4.Idx), (show BitVec 32 from m ((c.tc : Thread nD τ).loc main_arg2) y).toNat < 1000) : LabelRows m := by
  intro c t
  apply row_of_lt
  rw [View.readAt_apply, Memref.IsWhole.read_unread]
  unfold iblk
  rw [View.read_apply, cast_eq]
  rw [show V m c (Pipeline.arrRef spec0 0) = m ((c.tc : Thread nD τ).loc main_arg2) from V_main_arg2 m c]
  exact h c _

end

end Cert.KernelIdeal.Body

end

end
-- ==== Proof.SameText.lean ====
module

public import proofs.«01_k».proof.Proof.Gen.Kernel
public import proofs.«01_k».proof.Proof.Gen.KernelIdeal
public import proofs.«01_k».proof.Defs

/-! The kernel at machine words and the idealized kernel are one text: both read at machine words, their bodies, body
    tables and host programs are equal. What is proved of the idealized one at any float type so holds of the kernel. -/

@[expose] public section

set_option maxRecDepth 100000
set_option maxHeartbeats 4000000

noncomputable section

namespace Cert.SameText
open Idealize.ShloMosaic Idealize.SL.Sem

attribute [local instance] Cert.Kernel.Gen.facts Cert.KernelIdeal.Gen.facts

/-- The bodies are equal. -/
theorem body_eq : Cert.Kernel.cc0__denoise_kernel (F := Bits) = Cert.KernelIdeal.cc0__denoise_kernel (F := Bits) := rfl

/-- The kernels' body tables are equal: each has one label, and the body at it. -/
theorem table_eq : Cert.Kernel.defs₀ (F := Bits) = Cert.KernelIdeal.defs₀ (F := Bits) := by
  refine congrArg Defs.onTc ?_
  funext l a
  obtain ⟨l, hl⟩ := l
  obtain rfl : l = 0 := by omega
  obtain ⟨t, s⟩ := a
  rfl

/-- The body tables with the pipeline's labels are equal. -/
theorem defs_eq : Cert.Kernel.defs (F := Bits) = Cert.KernelIdeal.defs (F := Bits) :=
  congrArg (Pipeline.defs Cert.Kernel.pcfgs) table_eq

/-- The host programs are equal. -/
theorem main_eq : Cert.Kernel.main (F := Bits) = Cert.KernelIdeal.main (F := Bits) := rfl

/-- So are the runs. -/
theorem run_eq : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) :=
  congrArg₂ (fun d p => θ_run d (onTc p)) defs_eq main_eq

end Cert.SameText

end

end
-- ==== Proof.Ranges.lean ====
module

public import proofs.«01_k».proof.Defs
public import proofs.«01_k».proof.Proof.Gen.Pre_labels_in_range
public import proofs.«01_k».proof.Proof.Gen.Pre_labels_and_weights
public import Idealize.ShloMosaic.Lib.Pointwise

/-! The assumptions' printed comparisons decoded into bounds on the arrays' entries. -/

@[expose] public section

set_option maxRecDepth 16384

noncomputable section

namespace Cert.Ranges
open Idealize.ShloMosaic Idealize.ShloMosaic.Pointwise Idealize.SL.Sem

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- The two signed comparisons `0 ≤ v` and `v < k` bound the word's value. -/
theorem lt_of_cmps (v : BitVec 32) (k : ℕ) (hk : k < 2 ^ 31)
    (h : IntOp.andi (IntOp.cmpi .sge v 0#32) (IntOp.cmpi .slt v (BitVec.ofNat 32 k)) = 1#1) : v.toNat < k := by
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  have := v.isLt
  have e : k % 2 ^ 32 = k := Nat.mod_eq_of_lt (by omega)
  rw [e] at hlt
  omega

section
variable {F : FTy → Type} [FloatOps F]

/-- The first assumption bounds every class label. -/
theorem labels_of_fn [Cert.Pre_labels_in_range.Facts] (a0 : FVec F _ .f32) (a1 : FVec F _ .f32) (a2 a3) (a4 : FVec F _ .f32) (a5 : FVec F _ .f32) (a6 : FVec F _ .f32) (a7 : FVec F _ .f32) (a8 : FVec F _ .f32) (a9 : FVec F _ .f32)
    (h : Cert.Pre_labels_in_range.fn (F := F) a0 a1 a2 a3 a4 a5 a6 a7 a8 a9 = fun _ => 1#1) (y) : (a2 y).toNat < 1000 :=
  lt_of_cmps _ 1000 (by norm_num) (congrFun h y)

/-- The second assumption's first part bounds every class label. -/
theorem labels_of_fn' [Cert.Pre_labels_and_weights.Facts] (a0 : FVec F _ .f32) (a1 : FVec F _ .f32) (a2 a3) (a4 : FVec F _ .f32) (a5 : FVec F _ .f32) (a6 : FVec F _ .f32) (a7 : FVec F _ .f32) (a8 : FVec F _ .f32) (a9 : FVec F _ .f32)
    (h : (Cert.Pre_labels_and_weights.fn (F := F) a0 a1 a2 a3 a4 a5 a6 a7 a8 a9).1 = fun _ => 1#1) (y) : (a2 y).toNat < 1000 :=
  lt_of_cmps _ 1000 (by norm_num) (congrFun h y)

/-- Its second part says every mask entry is 0 or 1. -/
theorem mask_of_fn [Cert.Pre_labels_and_weights.Facts] (a0 : FVec F _ .f32) (a1 : FVec F _ .f32) (a2 a3) (a4 : FVec F _ .f32) (a5 : FVec F _ .f32) (a6 : FVec F _ .f32) (a7 : FVec F _ .f32) (a8 : FVec F _ .f32) (a9 : FVec F _ .f32)
    (h : (Cert.Pre_labels_and_weights.fn (F := F) a0 a1 a2 a3 a4 a5 a6 a7 a8 a9).2.1 = fun _ => 1#1) (y) : (a3 y).toNat < 2 :=
  lt_of_cmps _ 2 (by norm_num) (congrFun h y)

end

/-- A number whose absolute value is below infinity is a real number. -/
theorem real_of_abs (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  have hlt : max x (-x) < ⊤ := of_decide_eq_true ((ofBool_eq_one _).1 h)
  induction x with
  | bot => simp at hlt
  | top => simp at hlt
  | coe r => exact ⟨r, rfl⟩

/-- The second assumption's third part says the mask channels' weights are finite. -/
theorem weights_of_fn [Cert.Pre_labels_and_weights.Facts] (a0 : FVec Ideal _ .f32) (a1 : FVec Ideal _ .f32) (a2 a3) (a4 : FVec Ideal _ .f32) (a5 : FVec Ideal _ .f32) (a6 : FVec Ideal _ .f32) (a7 : FVec Ideal _ .f32) (a8 : FVec Ideal _ .f32) (a9 : FVec Ideal _ .f32)
    (h : (Cert.Pre_labels_and_weights.fn (F := Ideal) a0 a1 a2 a3 a4 a5 a6 a7 a8 a9).2.2 = fun _ => 1#1) (o : Fin 3) (j : Fin 128) (ky kx : Fin 3) :
    ∃ r : ℝ, a6 (ix4 o (⟨3 + j.val, by omega⟩ : Fin 131) ky kx) = (r : EReal) := by
  refine real_of_abs _ ?_
  have h' := congrFun h (ix4 o j ky kx)
  have e : ∀ hs, extractStridedSlice Cert.Pre_labels_and_weights.S3x128x3x3 ![0, 3, 0, 0] a6 hs (ix4 o j ky kx)
      = a6 (ix4 o (⟨3 + j.val, by omega⟩ : Fin 131) ky kx) := fun hs => by pointwise
  rw [← e Cert.Pre_labels_and_weights.Facts.slices_S3x131x3x3_S3x128x3x3_0_3_0_0]
  exact h'

end Cert.Ranges

end

end
-- ==== Proof.Frames.lean ====
module

public import proofs.«01_k».proof.Proof.LabelsIdeal
public import proofs.«01_k».proof.Proof.SameText
public import proofs.«01_k».proof.Proof.Ranges
public import proofs.«01_k».proof.Proof.Gen.ReferenceIdeal.Run

/-! The frames of the three programs: each run ends, leaves its arguments unchanged, and every semaphore counter is
    back at zero. -/

@[expose] public section

set_option maxRecDepth 16384

noncomputable section

namespace Cert.Frames
open Idealize.ShloMosaic Idealize.SL.Sem

attribute [local instance] Cert.Kernel.Gen.facts Cert.KernelIdeal.Gen.facts Cert.ReferenceIdeal.Gen.facts Cert.Pre_labels_in_range.Gen.facts Cert.Pre_labels_and_weights.Gen.facts

theorem rows_kernel (m) (h : Cert.Pre_Kernel m) : Cert.KernelIdeal.Body.LabelRows (F := Bits) m :=
  Cert.KernelIdeal.Body.labelRows_of_lt m fun c y => Cert.Ranges.labels_of_fn _ _ _ _ _ _ _ _ _ _ (h c) y

theorem rows_ideal (m) (h : Cert.Pre_KernelIdeal m) : Cert.KernelIdeal.Body.LabelRows m :=
  Cert.KernelIdeal.Body.labelRows_of_lt m fun c y => Cert.Ranges.labels_of_fn _ _ _ _ _ _ _ _ _ _ (h c) y

theorem rows_ideal' (m) (h : Cert.Pre_KernelIdeal_labels_and_weights m) : Cert.KernelIdeal.Body.LabelRows m :=
  Cert.KernelIdeal.Body.labelRows_of_lt m fun c y => Cert.Ranges.labels_of_fn' _ _ _ _ _ _ _ _ _ _ (h c).1 y

/-- The kernel's frame at machine words: its run is the idealized text's run at machine words. -/
theorem frame_p : Cert.quiescent_Kernel := fun m ρ h => by
  rw [Cert.SameText.run_eq]
  exact Cert.KernelIdeal.Body.frame (F := Bits) m ρ (rows_kernel m h)

/-- The kernel's frame at exact arithmetic. -/
theorem frame_pi : Cert.quiescent_KernelIdeal := fun m ρ h => Cert.KernelIdeal.Body.frame m ρ (rows_ideal m h)

/-- The same under the value claim's assumption. -/
theorem frame_pi' : Cert.quiescent_KernelIdeal_pre_labels_and_weights := fun m ρ h =>
  Cert.KernelIdeal.Body.frame m ρ (rows_ideal' m h)

/-- The reference's frame: its run changes no argument, and it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the value claim's assumption, which it does not need. -/
theorem frame_ri' : Cert.quiescent_ReferenceIdeal_pre_labels_and_weights := fun m ρ _ => frame_ri m ρ trivial

end Cert.Frames

end

end
-- ==== Proof.Pieces.lean ====
module

public import proofs.«01_k».proof.Proof.Gen.KernelIdeal.Skeleton
public import Idealize.ShloMosaic.Lib.Pointwise
public import Idealize.ShloMosaic.Lib.Pipeline.FrameBody
public import Idealize.ShloMosaic.Lib.WritesUnit

/-! What a buffer holds after the body's stores, read off the list of stores: a store of a box changes the entries in
    the box and no others. The accumulator's three shifted additions and the output's border corrections, each for one
    channel. -/

@[expose] public section

set_option maxRecDepth 16384

noncomputable section

namespace Cert.KernelIdeal.Val
open Idealize.ShloMosaic Idealize.ShloMosaic.Pointwise Idealize.SL.Sem Cert.KernelIdeal Cert.KernelIdeal.Gen

section
variable {Val : EltTy → Type} [∀ e, Nonempty (Val e)] {s : Shape} {e : EltTy}

/-- The newest store of a box decides the entries in the box; the others are what the earlier stores left. -/
theorem canon_unit {off size : Fin s.rank → ℕ} (inb : ∀ a, off a + size a ≤ s.size a)
    (w : (Rect.unit off size inb).shape.Idx → Val e) (L : List (View.Piece Val s e)) (y : s.Idx) :
    View.canon (⟨Rect.unit off size inb, w⟩ :: L) y
      = if h : ∀ a, off a ≤ (y a).val ∧ (y a).val < off a + size a then
          w (Rect.unitLocal (s := s) (off := off) (size := size) y h)
        else View.canon L y := by
  by_cases h : ∀ a, off a ≤ (y a).val ∧ (y a).val < off a + size a
  · rw [dif_pos h]
    have hy : (Rect.unit off size inb).emb (Rect.unitLocal (s := s) (off := off) (size := size) y h) = y :=
      funext fun a => Fin.ext (by
        show off a + 1 * ((y a).val - off a) = (y a).val
        have := h a
        omega)
    exact (congrArg (View.canon (⟨Rect.unit off size inb, w⟩ :: L)) hy.symm).trans (View.canon_cons_emb _ _ _ _)
  · rw [dif_neg h]
    exact View.canon_cons_of_not_mem _ _ fun hm => h ((Rect.mem_set_unit (inb := inb)).mp hm)

/-- A store whose every value is a change `g` of what stood at its place changes the entries in the box by `g`. -/
theorem canon_change {off size : Fin s.rank → ℕ} (inb : ∀ a, off a + size a ≤ s.size a)
    (w : (Rect.unit off size inb).shape.Idx → Val e) (L : List (View.Piece Val s e))
    (g : ((a : Fin s.rank) → Fin (size a)) → Val e → Val e)
    (hw : ∀ j, w j = g j (View.canon L ((Rect.unit off size inb).toLoadRect.idx j))) (y : s.Idx) :
    View.canon (⟨Rect.unit off size inb, w⟩ :: L) y
      = if h : ∀ a, off a ≤ (y a).val ∧ (y a).val < off a + size a then
          g (Rect.unitLocal (s := s) (off := off) (size := size) y h) (View.canon L y)
        else View.canon L y := by
  rw [canon_unit]
  by_cases h : ∀ a, off a ≤ (y a).val ∧ (y a).val < off a + size a
  · rw [dif_pos h, dif_pos h, hw]
    congr 2
    exact funext fun a => Fin.ext (by
      show off a + 1 * ((y a).val - off a) = (y a).val
      have := h a
      omega)
  · rw [dif_neg h, dif_neg h]

end

/-- Membership of an index in a box of rank 3, coordinate by coordinate. -/
theorem box3 {n0 n1 n2 : ℕ} (i : Fin n0) (j : Fin n1) (k : Fin n2) (a b c : ℕ) (z : Fin 3 → ℕ) :
    (∀ d : Fin 3, (![a, b, c] : Fin 3 → ℕ) d ≤ (ix3 i j k d).val ∧ (ix3 i j k d).val < (![a, b, c] : Fin 3 → ℕ) d + z d)
      ↔ (a ≤ i.val ∧ i.val < a + z 0) ∧ (b ≤ j.val ∧ j.val < b + z 1) ∧ (c ≤ k.val ∧ k.val < c + z 2) := by
  constructor
  · intro h; exact ⟨h 0, h 1, h 2⟩
  · rintro ⟨h0, h1, h2⟩ d
    fin_cases d
    exacts [h0, h1, h2]

/-- Membership of an index in a box of rank 4, coordinate by coordinate. -/
theorem box4 {n0 n1 n2 n3 : ℕ} (i : Fin n0) (j : Fin n1) (k : Fin n2) (l : Fin n3) (a b c e : ℕ) (z : Fin 4 → ℕ) :
    (∀ d : Fin 4, (![a, b, c, e] : Fin 4 → ℕ) d ≤ (ix4 i j k l d).val ∧ (ix4 i j k l d).val < (![a, b, c, e] : Fin 4 → ℕ) d + z d)
      ↔ (a ≤ i.val ∧ i.val < a + z 0) ∧ (b ≤ j.val ∧ j.val < b + z 1) ∧ (c ≤ k.val ∧ k.val < c + z 2) ∧ (e ≤ l.val ∧ l.val < e + z 3) := by
  constructor
  · intro h; exact ⟨h 0, h 1, h 2, h 3⟩
  · rintro ⟨h0, h1, h2, h3⟩ d
    fin_cases d
    exacts [h0, h1, h2, h3]

/-- Channel `o` of the accumulator after its three shifted additions, read one column in: the middle addition at the
    pixel's own column, the first at the column before it, the last at the column after it. -/
theorem acc_same (o : ℕ) (ho : o < 3) (L0 : List (View.Piece (Elt Ideal) S3x224x226 .f32)) (w0 w1 w2 : Vec Ideal S1x224x224 .f32) (i0 i1 i2)
    (q0 q1 q2 : Fin 224 → Fin 224 → EReal)
    (h0 : ∀ (a : Fin 1) y x, w0 (ix3 a y x) = View.canon L0 ((Rect.unit (s := S3x224x226) ![o, 0, 2] S1x224x224.size i0).toLoadRect.idx (ix3 a y x)) + q0 y x)
    (h1 : ∀ (a : Fin 1) y x, w1 (ix3 a y x) = View.canon (⟨Rect.unit (s := S3x224x226) ![o, 0, 2] S1x224x224.size i0, w0⟩ :: L0) ((Rect.unit (s := S3x224x226) ![o, 0, 1] S1x224x224.size i1).toLoadRect.idx (ix3 a y x)) + q1 y x)
    (h2 : ∀ (a : Fin 1) y x, w2 (ix3 a y x) = View.canon (⟨Rect.unit (s := S3x224x226) ![o, 0, 1] S1x224x224.size i1, w1⟩ :: ⟨Rect.unit (s := S3x224x226) ![o, 0, 2] S1x224x224.size i0, w0⟩ :: L0) ((Rect.unit (s := S3x224x226) ![o, 0, 0] S1x224x224.size i2).toLoadRect.idx (ix3 a y x)) + q2 y x)
    (y x : Fin 224) (x1 : Fin 226) (hx : x1.val = x.val + 1) :
    View.canon (⟨Rect.unit (s := S3x224x226) ![o, 0, 0] S1x224x224.size i2, w2⟩ :: ⟨Rect.unit (s := S3x224x226) ![o, 0, 1] S1x224x224.size i1, w1⟩ :: ⟨Rect.unit (s := S3x224x226) ![o, 0, 2] S1x224x224.size i0, w0⟩ :: L0)
      (ix3 (⟨o, ho⟩ : Fin 3) y x1)
      = (let u := (if h : 1 ≤ x.val then View.canon L0 (ix3 (⟨o, ho⟩ : Fin 3) y x1) + q0 y ⟨x.val - 1, by omega⟩
            else View.canon L0 (ix3 (⟨o, ho⟩ : Fin 3) y x1)) + q1 y x
         if h : x.val + 1 < 224 then u + q2 y ⟨x.val + 1, h⟩ else u) := by
  have e0 := canon_change (e := .f32) (s := S3x224x226) i0 w0 L0 (fun j v => v + q0 (j 1) (j 2)) (fun j => by
    rw [show j = ix3 (j 0) (j 1) (j 2) from eq_ix3 j]; exact h0 _ _ _)
  have e1 := canon_change (e := .f32) (s := S3x224x226) i1 w1 _ (fun j v => v + q1 (j 1) (j 2)) (fun j => by
    rw [show j = ix3 (j 0) (j 1) (j 2) from eq_ix3 j]; exact h1 _ _ _)
  have e2 := canon_change (e := .f32) (s := S3x224x226) i2 w2 _ (fun j v => v + q2 (j 1) (j 2)) (fun j => by
    rw [show j = ix3 (j 0) (j 1) (j 2) from eq_ix3 j]; exact h2 _ _ _)
  have c2 := box3 (⟨o, ho⟩ : Fin 3) y x1 o 0 0 S1x224x224.size
  have c1 := box3 (⟨o, ho⟩ : Fin 3) y x1 o 0 1 S1x224x224.size
  have c0 := box3 (⟨o, ho⟩ : Fin 3) y x1 o 0 2 S1x224x224.size
  have z0 : S1x224x224.size 0 = 1 := rfl
  have z1 : S1x224x224.size 1 = 224 := rfl
  have z2 : S1x224x224.size 2 = 224 := rfl
  have hy := y.isLt
  have hxl := x.isLt
  rw [e2, e1, e0, dif_pos (c1.mpr ⟨⟨le_refl o, by show o < _; omega⟩, ⟨by omega, by omega⟩, by omega, by omega⟩)]
  have k1 : ∀ h, q1 (Rect.unitLocal (s := S3x224x226) (off := ![o, 0, 1]) (size := S1x224x224.size) (ix3 (⟨o, ho⟩ : Fin 3) y x1) h 1)
      (Rect.unitLocal (s := S3x224x226) (off := ![o, 0, 1]) (size := S1x224x224.size) (ix3 (⟨o, ho⟩ : Fin 3) y x1) h 2) = q1 y x := fun h =>
    congrArg₂ q1 (Fin.ext (by show y.val - 0 = y.val; omega)) (Fin.ext (by show x1.val - 1 = x.val; omega))
  have k0 : ∀ h h', q0 (Rect.unitLocal (s := S3x224x226) (off := ![o, 0, 2]) (size := S1x224x224.size) (ix3 (⟨o, ho⟩ : Fin 3) y x1) h 1)
      (Rect.unitLocal (s := S3x224x226) (off := ![o, 0, 2]) (size := S1x224x224.size) (ix3 (⟨o, ho⟩ : Fin 3) y x1) h 2) = q0 y ⟨x.val - 1, h'⟩ := fun h _ =>
    congrArg₂ q0 (Fin.ext (by show y.val - 0 = y.val; omega)) (Fin.ext (by show x1.val - 2 = x.val - 1; omega))
  have k2 : ∀ h h', q2 (Rect.unitLocal (s := S3x224x226) (off := ![o, 0, 0]) (size := S1x224x224.size) (ix3 (⟨o, ho⟩ : Fin 3) y x1) h 1)
      (Rect.unitLocal (s := S3x224x226) (off := ![o, 0, 0]) (size := S1x224x224.size) (ix3 (⟨o, ho⟩ : Fin 3) y x1) h 2) = q2 y ⟨x.val + 1, h'⟩ := fun h _ =>
    congrArg₂ q2 (Fin.ext (by show y.val - 0 = y.val; omega)) (Fin.ext (by show x1.val - 0 = x.val + 1; omega))
  rw [k1]
  by_cases hl : 1 ≤ x.val
  · rw [dif_pos (c0.mpr ⟨⟨le_refl o, by show o < _; omega⟩, ⟨by omega, by omega⟩, by omega, by omega⟩), dif_pos hl, k0]
    by_cases hr : x.val + 1 < 224
    · rw [dif_pos (c2.mpr ⟨⟨le_refl o, by show o < _; omega⟩, ⟨by omega, by omega⟩, by omega, by omega⟩)]
      simp only [dif_pos hr]; rw [k2 _ hr]
    · rw [dif_neg (mt c2.mp fun h => by have := h.2.2; omega)]
      simp only [dif_neg hr]
  · rw [dif_neg (mt c0.mp fun h => by have := h.2.2; omega), dif_neg hl]
    by_cases hr : x.val + 1 < 224
    · rw [dif_pos (c2.mpr ⟨⟨le_refl o, by show o < _; omega⟩, ⟨by omega, by omega⟩, by omega, by omega⟩)]
      simp only [dif_pos hr]; rw [k2 _ hr]
    · rw [dif_neg (mt c2.mp fun h => by have := h.2.2; omega)]
      simp only [dif_neg hr]

/-- Another channel is not touched by the three additions. -/
theorem acc_other (o o' : ℕ) (ho' : o' < 3) (hne : o' ≠ o) (L0 : List (View.Piece (Elt Ideal) S3x224x226 .f32)) (w0 w1 w2 : Vec Ideal S1x224x224 .f32) (i0 i1 i2)
    (y : Fin 224) (x : Fin 226) :
    View.canon (⟨Rect.unit (s := S3x224x226) ![o, 0, 0] S1x224x224.size i2, w2⟩ :: ⟨Rect.unit (s := S3x224x226) ![o, 0, 1] S1x224x224.size i1, w1⟩ :: ⟨Rect.unit (s := S3x224x226) ![o, 0, 2] S1x224x224.size i0, w0⟩ :: L0)
      (ix3 (⟨o', ho'⟩ : Fin 3) y x) = View.canon L0 (ix3 (⟨o', ho'⟩ : Fin 3) y x) := by
  have z0 : S1x224x224.size 0 = 1 := rfl
  have key : ∀ c, ¬ ∀ d : Fin 3, (![o, 0, c] : Fin 3 → ℕ) d ≤ (ix3 (⟨o', ho'⟩ : Fin 3) y x d).val ∧ (ix3 (⟨o', ho'⟩ : Fin 3) y x d).val < (![o, 0, c] : Fin 3 → ℕ) d + S1x224x224.size d := fun c h => by
    have h1 : o ≤ o' ∧ o' < o + 1 := ((box3 (⟨o', ho'⟩ : Fin 3) y x o 0 c S1x224x224.size).mp h).1
    omega
  rw [canon_unit, dif_neg (key 0), canon_unit, dif_neg (key 1), canon_unit, dif_neg (key 2)]

/-- A store into another plane is passed over. -/
theorem skip3 {n0 n1 n2 : ℕ} (z : Fin 3 → ℕ) (a b c : ℕ) (inb) (w : (Rect.unit (s := ⟨3, ![n0, n1, n2]⟩) ![a, b, c] z inb).shape.Idx → EReal)
    (L : List (View.Piece (Elt Ideal) ⟨3, ![n0, n1, n2]⟩ .f32)) (k : Fin n0) (y : Fin n1) (x : Fin n2) (hz : z 0 = 1) (hne : k.val ≠ a) :
    View.canon (⟨Rect.unit ![a, b, c] z inb, w⟩ :: L) (ix3 k y x) = View.canon L (ix3 k y x) := by
  rw [canon_unit, dif_neg]
  intro h
  have h1 : a ≤ k.val ∧ k.val < a + z 0 := ((box3 k y x a b c z).mp h).1
  omega

/-- A plane stored as a zero first row and the rows below it: the plane moved one row down. -/
theorem plane_down (k : Fin 8) (w : Vec Ideal S1x223x224 .f32) (z : Vec Ideal S1x1x224 .f32) (i0 i1)
    (L : List (View.Piece (Elt Ideal) S8x224x224 .f32)) (y x : Fin 224) :
    View.canon (⟨Rect.unit (s := S8x224x224) ![k.val, 1, 0] S1x223x224.size i1, w⟩ :: ⟨Rect.unit (s := S8x224x224) ![k.val, 0, 0] S1x1x224.size i0, z⟩ :: L) (ix3 k y x)
      = if h : 1 ≤ y.val then w (ix3 0 ⟨y.val - 1, by omega⟩ x) else z (ix3 0 0 x) := by
  have c1 := box3 k y x k.val 1 0 S1x223x224.size
  have c0 := box3 k y x k.val 0 0 S1x1x224.size
  have z0 : S1x223x224.size 0 = 1 := rfl
  have z1 : S1x223x224.size 1 = 223 := rfl
  have z2 : S1x223x224.size 2 = 224 := rfl
  have t0 : S1x1x224.size 0 = 1 := rfl
  have t1 : S1x1x224.size 1 = 1 := rfl
  have t2 : S1x1x224.size 2 = 224 := rfl
  have hy := y.isLt
  have hx := x.isLt
  rw [canon_unit, canon_unit]
  by_cases h : 1 ≤ y.val
  · rw [dif_pos (c1.mpr (by omega)), dif_pos h]
    exact congrArg w (funext fun d => by
      fin_cases d
      exacts [Fin.ext (by show k.val - k.val = 0; omega), Fin.ext (by rfl), Fin.ext (by show x.val - 0 = x.val; omega)])
  · rw [dif_neg (mt c1.mp (by omega)), dif_pos (c0.mpr (by omega)), dif_neg h]
    exact congrArg z (funext fun d => by
      fin_cases d
      exacts [Fin.ext (by show k.val - k.val = 0; omega), Fin.ext (by show y.val - 0 = 0; omega), Fin.ext (by show x.val - 0 = x.val; omega)])

/-- A plane stored as rows and a zero last row: the plane moved one row up. -/
theorem plane_up (k : Fin 8) (w : Vec Ideal S1x223x224 .f32) (z : Vec Ideal S1x1x224 .f32) (i0 i1)
    (L : List (View.Piece (Elt Ideal) S8x224x224 .f32)) (y x : Fin 224) :
    View.canon (⟨Rect.unit (s := S8x224x224) ![k.val, 223, 0] S1x1x224.size i1, z⟩ :: ⟨Rect.unit (s := S8x224x224) ![k.val, 0, 0] S1x223x224.size i0, w⟩ :: L) (ix3 k y x)
      = if h : y.val < 223 then w (ix3 0 ⟨y.val, h⟩ x) else z (ix3 0 0 x) := by
  have c1 := box3 k y x k.val 223 0 S1x1x224.size
  have c0 := box3 k y x k.val 0 0 S1x223x224.size
  have z0 : S1x223x224.size 0 = 1 := rfl
  have z1 : S1x223x224.size 1 = 223 := rfl
  have z2 : S1x223x224.size 2 = 224 := rfl
  have t0 : S1x1x224.size 0 = 1 := rfl
  have t1 : S1x1x224.size 1 = 1 := rfl
  have t2 : S1x1x224.size 2 = 224 := rfl
  have hy := y.isLt
  have hx := x.isLt
  rw [canon_unit, canon_unit]
  by_cases h : y.val < 223
  · rw [dif_neg (mt c1.mp (by omega)), dif_pos (c0.mpr (by omega)), dif_pos h]
    exact congrArg w (funext fun d => by
      fin_cases d
      exacts [Fin.ext (by show k.val - k.val = 0; omega), Fin.ext (by show y.val - 0 = y.val; omega), Fin.ext (by show x.val - 0 = x.val; omega)])
  · rw [dif_pos (c1.mpr (by omega)), dif_neg h]
    exact congrArg z (funext fun d => by
      fin_cases d
      exacts [Fin.ext (by show k.val - k.val = 0; omega), Fin.ext (by show y.val - 223 = 0; omega), Fin.ext (by show x.val - 0 = x.val; omega)])

/-- The border corrections of one pixel: a border row or column's correction taken off, a corner's added back. -/
def border (m t b l r c1 c2 c3 c4 : EReal) (y x : Fin 224) : EReal :=
  let v1 := if y.val = 0 then m - t else m
  let v2 := if y.val = 223 then v1 - b else v1
  let v3 := if x.val = 0 then v2 - l else v2
  let v4 := if x.val = 223 then v3 - r else v3
  let v5 := if y.val = 0 ∧ x.val = 0 then v4 + c1 else v4
  let v6 := if y.val = 0 ∧ x.val = 223 then v5 + c2 else v5
  let v7 := if y.val = 223 ∧ x.val = 0 then v6 + c3 else v6
  if y.val = 223 ∧ x.val = 223 then v7 + c4 else v7

/-- A change of the entries of a box, the same change `f` for each of them, read at an index of channel `o`. -/
theorem change4 (o : ℕ) (ho : o < 3) (b c : ℕ) (z : Fin 4 → ℕ) (inb) (w : (Rect.unit (s := S1x3x224x224) ![0, o, b, c] z inb).shape.Idx → EReal)
    (L : List (View.Piece (Elt Ideal) S1x3x224x224 .f32)) (f : EReal → EReal)
    (hw : ∀ j, w j = f (View.canon L ((Rect.unit (s := S1x3x224x224) ![0, o, b, c] z inb).toLoadRect.idx j)))
    (hz0 : z 0 = 1) (hz1 : z 1 = 1) (y x : Fin 224) :
    View.canon (⟨Rect.unit (s := S1x3x224x224) ![0, o, b, c] z inb, w⟩ :: L) (ix4 (0 : Fin 1) (⟨o, ho⟩ : Fin 3) y x)
      = if (b ≤ y.val ∧ y.val < b + z 2) ∧ (c ≤ x.val ∧ x.val < c + z 3) then f (View.canon L (ix4 (0 : Fin 1) (⟨o, ho⟩ : Fin 3) y x))
        else View.canon L (ix4 (0 : Fin 1) (⟨o, ho⟩ : Fin 3) y x) := by
  have cb := box4 (0 : Fin 1) (⟨o, ho⟩ : Fin 3) y x 0 o b c z
  rw [canon_change (e := .f32) (s := S1x3x224x224) inb w L (fun _ v => f v) hw]
  by_cases h : (b ≤ y.val ∧ y.val < b + z 2) ∧ (c ≤ x.val ∧ x.val < c + z 3)
  · rw [dif_pos (cb.mpr ⟨⟨le_refl _, by show 0 < 0 + z 0; omega⟩, ⟨le_refl o, by show o < o + z 1; omega⟩, h.1, h.2⟩), if_pos h]
  · rw [dif_neg (mt cb.mp fun k => h ⟨k.2.2.1, k.2.2.2⟩), if_neg h]

/-- A store into another channel is passed over. -/
theorem skip4 (o o' : ℕ) (ho' : o' < 3) (hne : o' ≠ o) (b c : ℕ) (z : Fin 4 → ℕ) (inb) (w : (Rect.unit (s := S1x3x224x224) ![0, o, b, c] z inb).shape.Idx → EReal)
    (L : List (View.Piece (Elt Ideal) S1x3x224x224 .f32)) (hz1 : z 1 = 1) (y x : Fin 224) :
    View.canon (⟨Rect.unit (s := S1x3x224x224) ![0, o, b, c] z inb, w⟩ :: L) (ix4 (0 : Fin 1) (⟨o', ho'⟩ : Fin 3) y x)
      = View.canon L (ix4 (0 : Fin 1) (⟨o', ho'⟩ : Fin 3) y x) := by
  rw [canon_unit, dif_neg]
  intro h
  have h1 : o ≤ o' ∧ o' < o + z 1 := ((box4 (0 : Fin 1) (⟨o', ho'⟩ : Fin 3) y x 0 o b c z).mp h).2.1
  omega

/-- A box of the output at channel `o` lies in the output. -/
abbrev InOut (o b c : ℕ) (z : Fin 4 → ℕ) : Prop := ∀ a, (![0, o, b, c] : Fin 4 → ℕ) a + z a ≤ S1x3x224x224.size a

/-- The nine stores of one channel of the output. -/
abbrev chanPieces (o : ℕ) (wM : Vec Ideal S1x1x224x224 .f32) (wT wB : Vec Ideal S1x1x1x224 .f32) (wL wR : Vec Ideal S1x1x224x1 .f32)
    (w1 w2 w3 w4 : Vec Ideal S1x1x1x1 .f32) (iM : InOut o 0 0 S1x1x224x224.size) (iT : InOut o 0 0 S1x1x1x224.size) (iB : InOut o 223 0 S1x1x1x224.size) (iL : InOut o 0 0 S1x1x224x1.size) (iR : InOut o 0 223 S1x1x224x1.size)
    (i1 : InOut o 0 0 S1x1x1x1.size) (i2 : InOut o 0 223 S1x1x1x1.size) (i3 : InOut o 223 0 S1x1x1x1.size) (i4 : InOut o 223 223 S1x1x1x1.size) (L : List (View.Piece (Elt Ideal) S1x3x224x224 .f32)) :
    List (View.Piece (Elt Ideal) S1x3x224x224 .f32) :=
  ⟨Rect.unit (s := S1x3x224x224) ![0, o, 223, 223] S1x1x1x1.size i4, w4⟩ :: ⟨Rect.unit (s := S1x3x224x224) ![0, o, 223, 0] S1x1x1x1.size i3, w3⟩
    :: ⟨Rect.unit (s := S1x3x224x224) ![0, o, 0, 223] S1x1x1x1.size i2, w2⟩ :: ⟨Rect.unit (s := S1x3x224x224) ![0, o, 0, 0] S1x1x1x1.size i1, w1⟩
    :: ⟨Rect.unit (s := S1x3x224x224) ![0, o, 0, 223] S1x1x224x1.size iR, wR⟩ :: ⟨Rect.unit (s := S1x3x224x224) ![0, o, 0, 0] S1x1x224x1.size iL, wL⟩
    :: ⟨Rect.unit (s := S1x3x224x224) ![0, o, 223, 0] S1x1x1x224.size iB, wB⟩ :: ⟨Rect.unit (s := S1x3x224x224) ![0, o, 0, 0] S1x1x1x224.size iT, wT⟩
    :: ⟨Rect.unit (s := S1x3x224x224) ![0, o, 0, 0] S1x1x224x224.size iM, wM⟩ :: L

/-- The nine stores of one channel leave another channel as it was. -/
theorem chan_other (o o' : ℕ) (ho' : o' < 3) (hne : o' ≠ o) (wM wT wB wL wR w1 w2 w3 w4) (iM : InOut o 0 0 S1x1x224x224.size) (iT : InOut o 0 0 S1x1x1x224.size) (iB : InOut o 223 0 S1x1x1x224.size) (iL : InOut o 0 0 S1x1x224x1.size) (iR : InOut o 0 223 S1x1x224x1.size)
    (i1 : InOut o 0 0 S1x1x1x1.size) (i2 : InOut o 0 223 S1x1x1x1.size) (i3 : InOut o 223 0 S1x1x1x1.size) (i4 : InOut o 223 223 S1x1x1x1.size) (L) (y x : Fin 224) :
    View.canon (chanPieces o wM wT wB wL wR w1 w2 w3 w4 iM iT iB iL iR i1 i2 i3 i4 L) (ix4 (0 : Fin 1) (⟨o', ho'⟩ : Fin 3) y x)
      = View.canon L (ix4 (0 : Fin 1) (⟨o', ho'⟩ : Fin 3) y x) := by
  unfold chanPieces
  iterate 9 rw [skip4 o o' ho' hne _ _ _ _ _ _ rfl]

/-- The nine stores of one channel read at a pixel of it: the channel's values with the border corrections. -/
theorem chan_same (o : ℕ) (ho : o < 3) (wM wT wB wL wR w1 w2 w3 w4) (iM : InOut o 0 0 S1x1x224x224.size) (iT : InOut o 0 0 S1x1x1x224.size) (iB : InOut o 223 0 S1x1x1x224.size) (iL : InOut o 0 0 S1x1x224x1.size) (iR : InOut o 0 223 S1x1x224x1.size)
    (i1 : InOut o 0 0 S1x1x1x1.size) (i2 : InOut o 0 223 S1x1x1x1.size) (i3 : InOut o 223 0 S1x1x1x1.size) (i4 : InOut o 223 223 S1x1x1x1.size) (L) (M : Fin 224 → Fin 224 → EReal) (t b l r c1 c2 c3 c4 : EReal)
    (hM : ∀ (a : Fin 1) (k : Fin 1) y x, wM (ix4 a k y x) = M y x)
    (hT : ∀ j, wT j = View.canon (⟨Rect.unit (s := S1x3x224x224) ![0, o, 0, 0] S1x1x224x224.size iM, wM⟩ :: L) ((Rect.unit (s := S1x3x224x224) ![0, o, 0, 0] S1x1x1x224.size iT).toLoadRect.idx j) - t)
    (hB : ∀ j, wB j = View.canon (⟨Rect.unit (s := S1x3x224x224) ![0, o, 0, 0] S1x1x1x224.size iT, wT⟩ :: ⟨Rect.unit (s := S1x3x224x224) ![0, o, 0, 0] S1x1x224x224.size iM, wM⟩ :: L) ((Rect.unit (s := S1x3x224x224) ![0, o, 223, 0] S1x1x1x224.size iB).toLoadRect.idx j) - b)
    (hL : ∀ j, wL j = View.canon (List.drop 6 (chanPieces o wM wT wB wL wR w1 w2 w3 w4 iM iT iB iL iR i1 i2 i3 i4 L)) ((Rect.unit (s := S1x3x224x224) ![0, o, 0, 0] S1x1x224x1.size iL).toLoadRect.idx j) - l)
    (hR : ∀ j, wR j = View.canon (List.drop 5 (chanPieces o wM wT wB wL wR w1 w2 w3 w4 iM iT iB iL iR i1 i2 i3 i4 L)) ((Rect.unit (s := S1x3x224x224) ![0, o, 0, 223] S1x1x224x1.size iR).toLoadRect.idx j) - r)
    (h1 : ∀ j, w1 j = View.canon (List.drop 4 (chanPieces o wM wT wB wL wR w1 w2 w3 w4 iM iT iB iL iR i1 i2 i3 i4 L)) ((Rect.unit (s := S1x3x224x224) ![0, o, 0, 0] S1x1x1x1.size i1).toLoadRect.idx j) + c1)
    (h2 : ∀ j, w2 j = View.canon (List.drop 3 (chanPieces o wM wT wB wL wR w1 w2 w3 w4 iM iT iB iL iR i1 i2 i3 i4 L)) ((Rect.unit (s := S1x3x224x224) ![0, o, 0, 223] S1x1x1x1.size i2).toLoadRect.idx j) + c2)
    (h3 : ∀ j, w3 j = View.canon (List.drop 2 (chanPieces o wM wT wB wL wR w1 w2 w3 w4 iM iT iB iL iR i1 i2 i3 i4 L)) ((Rect.unit (s := S1x3x224x224) ![0, o, 223, 0] S1x1x1x1.size i3).toLoadRect.idx j) + c3)
    (h4 : ∀ j, w4 j = View.canon (List.drop 1 (chanPieces o wM wT wB wL wR w1 w2 w3 w4 iM iT iB iL iR i1 i2 i3 i4 L)) ((Rect.unit (s := S1x3x224x224) ![0, o, 223, 223] S1x1x1x1.size i4).toLoadRect.idx j) + c4)
    (y x : Fin 224) :
    View.canon (chanPieces o wM wT wB wL wR w1 w2 w3 w4 iM iT iB iL iR i1 i2 i3 i4 L) (ix4 (0 : Fin 1) (⟨o, ho⟩ : Fin 3) y x)
      = border (M y x) t b l r c1 c2 c3 c4 y x := by
  have hy := y.isLt
  have hx := x.isLt
  have a2 : S1x1x1x224.size 2 = 1 := rfl
  have a3 : S1x1x1x224.size 3 = 224 := rfl
  have b2 : S1x1x224x1.size 2 = 224 := rfl
  have b3 : S1x1x224x1.size 3 = 1 := rfl
  have d2 : S1x1x1x1.size 2 = 1 := rfl
  have d3 : S1x1x1x1.size 3 = 1 := rfl
  have eM : View.canon (⟨Rect.unit (s := S1x3x224x224) ![0, o, 0, 0] S1x1x224x224.size iM, wM⟩ :: L) (ix4 (0 : Fin 1) (⟨o, ho⟩ : Fin 3) y x) = M y x := by
    have cb := box4 (0 : Fin 1) (⟨o, ho⟩ : Fin 3) y x 0 o 0 0 S1x1x224x224.size
    rw [canon_unit, dif_pos (cb.mpr ⟨⟨le_refl _, by show 0 < 0 + 1; omega⟩, ⟨le_refl o, by show o < o + 1; omega⟩, ⟨Nat.zero_le _, by show y.val < 0 + 224; omega⟩, ⟨Nat.zero_le _, by show x.val < 0 + 224; omega⟩⟩)]
    exact (congrArg wM (a₂ := ix4 0 0 y x) (funext fun d => by
      fin_cases d
      exacts [Fin.ext rfl, Fin.ext (by show o - o = 0; omega), Fin.ext (by show y.val - 0 = y.val; omega), Fin.ext (by show x.val - 0 = x.val; omega)])).trans (hM _ _ _ _)
  simp only [chanPieces, List.drop_succ_cons, List.drop_zero] at hL hR h1 h2 h3 h4
  unfold chanPieces border
  rw [change4 o ho 223 223 _ i4 w4 _ (· + c4) h4 rfl rfl, change4 o ho 223 0 _ i3 w3 _ (· + c3) h3 rfl rfl,
    change4 o ho 0 223 _ i2 w2 _ (· + c2) h2 rfl rfl, change4 o ho 0 0 _ i1 w1 _ (· + c1) h1 rfl rfl,
    change4 o ho 0 223 _ iR wR _ (· - r) hR rfl rfl, change4 o ho 0 0 _ iL wL _ (· - l) hL rfl rfl,
    change4 o ho 223 0 _ iB wB _ (· - b) hB rfl rfl, change4 o ho 0 0 _ iT wT _ (· - t) hT rfl rfl, eM]
  have p1 : ((0 ≤ y.val ∧ y.val < 0 + S1x1x1x224.size 2) ∧ (0 ≤ x.val ∧ x.val < 0 + S1x1x1x224.size 3)) ↔ y.val = 0 := by omega
  have p2 : ((223 ≤ y.val ∧ y.val < 223 + S1x1x1x224.size 2) ∧ (0 ≤ x.val ∧ x.val < 0 + S1x1x1x224.size 3)) ↔ y.val = 223 := by omega
  have p3 : ((0 ≤ y.val ∧ y.val < 0 + S1x1x224x1.size 2) ∧ (0 ≤ x.val ∧ x.val < 0 + S1x1x224x1.size 3)) ↔ x.val = 0 := by omega
  have p4 : ((0 ≤ y.val ∧ y.val < 0 + S1x1x224x1.size 2) ∧ (223 ≤ x.val ∧ x.val < 223 + S1x1x224x1.size 3)) ↔ x.val = 223 := by omega
  have p5 : ((0 ≤ y.val ∧ y.val < 0 + S1x1x1x1.size 2) ∧ (0 ≤ x.val ∧ x.val < 0 + S1x1x1x1.size 3)) ↔ y.val = 0 ∧ x.val = 0 := by omega
  have p6 : ((0 ≤ y.val ∧ y.val < 0 + S1x1x1x1.size 2) ∧ (223 ≤ x.val ∧ x.val < 223 + S1x1x1x1.size 3)) ↔ y.val = 0 ∧ x.val = 223 := by omega
  have p7 : ((223 ≤ y.val ∧ y.val < 223 + S1x1x1x1.size 2) ∧ (0 ≤ x.val ∧ x.val < 0 + S1x1x1x1.size 3)) ↔ y.val = 223 ∧ x.val = 0 := by omega
  have p8 : ((223 ≤ y.val ∧ y.val < 223 + S1x1x1x1.size 2) ∧ (223 ≤ x.val ∧ x.val < 223 + S1x1x1x1.size 3)) ↔ y.val = 223 ∧ x.val = 223 := by omega
  simp only [p1, p2, p3, p4, p5, p6, p7, p8]

end Cert.KernelIdeal.Val

end
end
-- ==== Proof.Taps.lean ====
module

public import proofs.«01_k».proof.Proof.Gen.KernelIdeal.Skeleton
public import Idealize.ShloMosaic.Lib.Pointwise

/-! What the body computes between its loads and stores, read at one pixel: the twelve products that one shift of the
    accumulator takes up, the value a pixel gets before the border is corrected, and the border's corrections. -/

@[expose] public section

set_option maxRecDepth 16384

noncomputable section

namespace Cert.KernelIdeal.Val
open Idealize.ShloMosaic Idealize.ShloMosaic.Pointwise Idealize.SL.Sem Cert.KernelIdeal Cert.KernelIdeal.Gen

/-- The row of the flattened weights for channel `o` and tap `(ky, kx)`. -/
def row (o ky kx : Fin 3) : Fin 27 := ⟨(o.val * 3 + ky.val) * 3 + kx.val, by omega⟩

/-- The twelve products of one shift at one pixel: `W` a weight for each row and each of four channels, `S` the value
    of a channel in the row above, at and below the pixel. -/
def tap (W : Fin 27 → Fin 4 → EReal) (S : Fin 4 → Fin 3 → Fin 224 → Fin 224 → EReal) (o kx : Fin 3) (y x : Fin 224) : EReal :=
  W (row o 0 kx) 0 * S 0 0 y x + W (row o 1 kx) 0 * S 0 1 y x + W (row o 2 kx) 0 * S 0 2 y x
    + W (row o 0 kx) 1 * S 1 0 y x + W (row o 1 kx) 1 * S 1 1 y x + W (row o 2 kx) 1 * S 1 2 y x
    + W (row o 0 kx) 2 * S 2 0 y x + W (row o 1 kx) 2 * S 2 1 y x + W (row o 2 kx) 2 * S 2 2 y x
    + W (row o 0 kx) 3 * S 3 0 y x + W (row o 1 kx) 3 * S 3 1 y x + W (row o 2 kx) 3 * S 3 2 y x

/-- The vectors a shift is computed from hold the weights `W` and the sources `S`. -/
structure Sources (W : Fin 27 → Fin 4 → EReal) (S : Fin 4 → Fin 3 → Fin 224 → Fin 224 → EReal)
    (a1 : FVec Ideal S27x1 .f32) (wi : FVec Ideal S27x3 .f32) (p0 p1 p2 p3 p4 p5 p6 p7 : Vec Ideal S1x224x224 .f32)
    (x0 x1 x2 : Vec Ideal S1x1x224x224 .f32) (mf : Vec Ideal S224x224 .f32) : Prop where
  w3 : ∀ r, a1 (ix2 r 0) = W r 3
  w0 : ∀ r, wi (ix2 r 0) = W r 0
  w1 : ∀ r, wi (ix2 r 1) = W r 1
  w2 : ∀ r, wi (ix2 r 2) = W r 2
  s00 : ∀ y x, p0 (ix3 0 y x) = S 0 0 y x
  s01 : ∀ y x, x0 (ix4 0 0 y x) = S 0 1 y x
  s02 : ∀ y x, p1 (ix3 0 y x) = S 0 2 y x
  s10 : ∀ y x, p2 (ix3 0 y x) = S 1 0 y x
  s11 : ∀ y x, x1 (ix4 0 0 y x) = S 1 1 y x
  s12 : ∀ y x, p3 (ix3 0 y x) = S 1 2 y x
  s20 : ∀ y x, p4 (ix3 0 y x) = S 2 0 y x
  s21 : ∀ y x, x2 (ix4 0 0 y x) = S 2 1 y x
  s22 : ∀ y x, p5 (ix3 0 y x) = S 2 2 y x
  s30 : ∀ y x, p6 (ix3 0 y x) = S 3 0 y x
  s31 : ∀ y x, mf (ix2 y x) = S 3 1 y x
  s32 : ∀ y x, p7 (ix3 0 y x) = S 3 2 y x

section
variable {W : Fin 27 → Fin 4 → EReal} {S : Fin 4 → Fin 3 → Fin 224 → Fin 224 → EReal}
  {a1 : FVec Ideal S27x1 .f32} {wi : FVec Ideal S27x3 .f32} {p0 p1 p2 p3 p4 p5 p6 p7 : Vec Ideal S1x224x224 .f32}
  {x0 x1 x2 : Vec Ideal S1x1x224x224 .f32} {mf : Vec Ideal S224x224 .f32}
  (H : Sources W S a1 wi p0 p1 p2 p3 p4 p5 p6 p7 x0 x1 x2 mf) (v : Vec Ideal S1x224x224 .f32) (a : Fin 1) (y x : Fin 224)
include H

/-- Output channel 0: each of the three shifts adds its twelve products. -/
theorem shifts0 :
    k0_pay38 a1 wi (k0_pay36 wi (k0_pay34 wi p0) (k0_pay35 wi) x0 p1 p2 x1 p3 p4) (k0_pay37 wi) x2 p5 p6 mf p7 v (ix3 a y x)
        = v (ix3 a y x) + tap W S 0 0 y x
      ∧ k0_pay43 a1 wi (k0_pay41 wi (k0_pay39 wi p0) (k0_pay40 wi) x0 p1 p2 x1 p3 p4) (k0_pay42 wi) x2 p5 p6 mf p7 v (ix3 a y x)
        = v (ix3 a y x) + tap W S 0 1 y x
      ∧ k0_pay47 a1 wi (k0_pay45 wi (k0_pay44 wi p0) x0 p1 p2 x1 p3 p4) (k0_pay46 wi) x2 p5 p6 mf p7 v (ix3 a y x)
        = v (ix3 a y x) + tap W S 0 2 y x := by
  obtain rfl : a = 0 := Subsingleton.elim _ _
  refine ⟨?_, ?_, ?_⟩
  · pointwise [k0_pay38, k0_pay36, k0_pay34, k0_pay35, k0_pay37]
    simp only [H.w0, H.w1, H.w2, H.w3, H.s00, H.s01, H.s02, H.s10, H.s11, H.s12, H.s20, H.s21, H.s22, H.s30, H.s31, H.s32]
    rfl
  · pointwise [k0_pay43, k0_pay41, k0_pay39, k0_pay40, k0_pay42]
    simp only [H.w0, H.w1, H.w2, H.w3, H.s00, H.s01, H.s02, H.s10, H.s11, H.s12, H.s20, H.s21, H.s22, H.s30, H.s31, H.s32]
    rfl
  · pointwise [k0_pay47, k0_pay45, k0_pay44, k0_pay46]
    simp only [H.w0, H.w1, H.w2, H.w3, H.s00, H.s01, H.s02, H.s10, H.s11, H.s12, H.s20, H.s21, H.s22, H.s30, H.s31, H.s32]
    rfl

/-- Output channel 1: each of the three shifts adds its twelve products. -/
theorem shifts1 :
    k0_pay66 a1 (k0_pay64 wi (k0_pay63 wi p0 x0) p1 p2 x1 p3 p4 x2) (k0_pay65 wi) p5 p6 mf p7 v (ix3 a y x)
        = v (ix3 a y x) + tap W S 1 0 y x
      ∧ k0_pay71 a1 (k0_pay69 wi (k0_pay67 wi p0) (k0_pay68 wi x0) p1 p2 x1 p3 p4 x2) (k0_pay70 wi) p5 p6 mf p7 v (ix3 a y x)
        = v (ix3 a y x) + tap W S 1 1 y x
      ∧ k0_pay77 a1 (k0_pay75 wi (k0_pay72 wi p0) (k0_pay73 x0) (k0_pay74 wi) p1 p2 x1 p3 p4 x2) (k0_pay76 wi) p5 p6 mf p7 v (ix3 a y x)
        = v (ix3 a y x) + tap W S 1 2 y x := by
  obtain rfl : a = 0 := Subsingleton.elim _ _
  refine ⟨?_, ?_, ?_⟩
  · pointwise [k0_pay66, k0_pay64, k0_pay63, k0_pay65]
    simp only [H.w0, H.w1, H.w2, H.w3, H.s00, H.s01, H.s02, H.s10, H.s11, H.s12, H.s20, H.s21, H.s22, H.s30, H.s31, H.s32]
    rfl
  · pointwise [k0_pay71, k0_pay69, k0_pay67, k0_pay68, k0_pay70]
    simp only [H.w0, H.w1, H.w2, H.w3, H.s00, H.s01, H.s02, H.s10, H.s11, H.s12, H.s20, H.s21, H.s22, H.s30, H.s31, H.s32]
    rfl
  · pointwise [k0_pay77, k0_pay75, k0_pay72, k0_pay73, k0_pay74, k0_pay76]
    simp only [H.w0, H.w1, H.w2, H.w3, H.s00, H.s01, H.s02, H.s10, H.s11, H.s12, H.s20, H.s21, H.s22, H.s30, H.s31, H.s32]
    rfl

/-- Output channel 2: each of the three shifts adds its twelve products. -/
theorem shifts2 :
    k0_pay95 a1 (k0_pay93 wi (k0_pay91 wi p0 x0) (k0_pay92 wi p1) p2 x1 p3 p4 x2 p5) (k0_pay94 a1) p6 mf p7 v (ix3 a y x)
        = v (ix3 a y x) + tap W S 2 0 y x
      ∧ k0_pay101 a1 (k0_pay99 wi (k0_pay96 wi p0 x0) (k0_pay97 p1) (k0_pay98 wi) p2 x1 p3 p4 x2 p5) (k0_pay100 a1) p6 mf p7 v (ix3 a y x)
        = v (ix3 a y x) + tap W S 2 1 y x
      ∧ k0_pay107 a1 (k0_pay105 wi (k0_pay102 wi p0 x0) (k0_pay103 wi) (k0_pay104 p1) p2 x1 p3 p4 x2 p5) (k0_pay106 a1) p6 mf p7 v (ix3 a y x)
        = v (ix3 a y x) + tap W S 2 2 y x := by
  obtain rfl : a = 0 := Subsingleton.elim _ _
  refine ⟨?_, ?_, ?_⟩
  · pointwise [k0_pay95, k0_pay93, k0_pay91, k0_pay92, k0_pay94]
    simp only [H.w0, H.w1, H.w2, H.w3, H.s00, H.s01, H.s02, H.s10, H.s11, H.s12, H.s20, H.s21, H.s22, H.s30, H.s31, H.s32]
    rfl
  · pointwise [k0_pay101, k0_pay99, k0_pay96, k0_pay97, k0_pay98, k0_pay100]
    simp only [H.w0, H.w1, H.w2, H.w3, H.s00, H.s01, H.s02, H.s10, H.s11, H.s12, H.s20, H.s21, H.s22, H.s30, H.s31, H.s32]
    rfl
  · pointwise [k0_pay107, k0_pay105, k0_pay102, k0_pay103, k0_pay104, k0_pay106]
    simp only [H.w0, H.w1, H.w2, H.w3, H.s00, H.s01, H.s02, H.s10, H.s11, H.s12, H.s20, H.s21, H.s22, H.s30, H.s31, H.s32]
    rfl

end

/-- The three taps of one row of the stencil, added up. -/
def tapRow (a0 : FVec Ideal S27x1 .f32) (o ky : Fin 3) : EReal := ∑ k : Fin 3, a0 (ix2 (row o ky k) 0)

/-- The three taps of one column of the stencil, added up. -/
def tapCol (a0 : FVec Ideal S27x1 .f32) (o kx : Fin 3) : EReal :=
  a0 (ix2 (row o 0 kx) 0) + a0 (ix2 (row o 1 kx) 0) + a0 (ix2 (row o 2 kx) 0)

/-- All nine taps, added up. -/
def tapAll (a0 : FVec Ideal S27x1 .f32) (o : Fin 3) : EReal := ∑ k : Fin 9, a0 (ix2 ⟨o.val * 9 + k.val, by omega⟩ 0)

/-- The value each pixel of a channel gets before the border is corrected: the accumulator's and the channel's own
    constants. -/
theorem mains (lin b : FVec Ideal S1x3 .f32) (a0 : FVec Ideal S27x1 .f32) (v : Vec Ideal S1x224x224 .f32) (k j : Fin 1) (y x : Fin 224) :
    k0_pay50 (k0_pay48 a0) (k0_pay49 lin b) v (ix4 k j y x) = v (ix3 0 y x) + (b (ix2 0 0) + lin (ix2 0 0) + tapAll a0 0)
      ∧ k0_pay79 (k0_pay78 lin a0 b v) (ix4 k j y x) = v (ix3 0 y x) + (b (ix2 0 1) + lin (ix2 0 1) + tapAll a0 1)
      ∧ k0_pay108 lin a0 b v (ix4 k j y x) = v (ix3 0 y x) + (b (ix2 0 2) + lin (ix2 0 2) + tapAll a0 2) := by
  have e : ∀ (o : Fin 3) (n : ℕ) (h : ∀ k : Fin 9, n + k.val < 27) (hn : n = o.val * 9), ∑ k : Fin 9, a0 (ix2 ⟨n + k.val, h k⟩ 0) = tapAll a0 o := by
    intro o n h hn
    subst hn
    rfl
  refine ⟨?_, ?_, ?_⟩
  · pointwise [k0_pay50, k0_pay49, k0_pay48]
    rw [← e 0 0 (fun k => by omega) rfl]
    simp only [Nat.zero_add]
  · pointwise [k0_pay79, k0_pay78]
    rw [← e 1 9 (fun k => by omega) rfl]
  · pointwise [k0_pay108]
    rw [← e 2 18 (fun k => by omega) rfl]

/-- The corrections of the first and the last row. -/
theorem rows_off (a0 : FVec Ideal S27x1 .f32) (w : Vec Ideal S1x1x1x224 .f32) (j : S1x1x1x224.Idx) :
    k0_pay53 a0 w j = w j - tapRow a0 0 0 ∧ k0_pay55 (k0_pay54 a0 w) j = w j - tapRow a0 0 2
      ∧ k0_pay82 a0 w j = w j - tapRow a0 1 0 ∧ k0_pay83 a0 w j = w j - tapRow a0 1 2
      ∧ k0_pay110 a0 w j = w j - tapRow a0 2 0 ∧ k0_pay111 a0 w j = w j - tapRow a0 2 2 := by
  have e : ∀ (o ky : Fin 3) (n : ℕ) (h : ∀ k : Fin 3, n + k.val < 27) (hn : n = (o.val * 3 + ky.val) * 3), ∑ k : Fin 3, a0 (ix2 ⟨n + k.val, h k⟩ 0) = tapRow a0 o ky := by
    intro o ky n h hn
    subst hn
    rfl
  rw [eq_ix4 j]
  refine ⟨?_, ?_, ?_, ?_, ?_, ?_⟩
  · pointwise [k0_pay53]
    rw [← e 0 0 0 (fun k => by omega) rfl]
    simp only [Nat.zero_add]
  · pointwise [k0_pay55, k0_pay54]
    rw [← e 0 2 6 (fun k => by omega) rfl]
  · pointwise [k0_pay82]
    rw [← e 1 0 9 (fun k => by omega) rfl]
  · pointwise [k0_pay83]
    rw [← e 1 2 15 (fun k => by omega) rfl]
  · pointwise [k0_pay110]
    rw [← e 2 0 18 (fun k => by omega) rfl]
  · pointwise [k0_pay111]
    rw [← e 2 2 24 (fun k => by omega) rfl]

/-- The corrections of the first and the last column. -/
theorem cols_off (a0 : FVec Ideal S27x1 .f32) (w : Vec Ideal S1x1x224x1 .f32) (j : S1x1x224x1.Idx) :
    k0_pay56 (k0_pay51 a0) w j = w j - tapCol a0 0 0 ∧ k0_pay57 (k0_pay52 a0) w j = w j - tapCol a0 0 2
      ∧ k0_pay84 (k0_pay80 a0) w j = w j - tapCol a0 1 0 ∧ k0_pay85 (k0_pay81 a0) w j = w j - tapCol a0 1 2
      ∧ k0_pay113 (k0_pay112 a0 w) j = w j - tapCol a0 2 0 ∧ k0_pay114 (k0_pay109 a0) w j = w j - tapCol a0 2 2 := by
  rw [eq_ix4 j]
  refine ⟨?_, ?_, ?_, ?_, ?_, ?_⟩
  · pointwise [k0_pay56, k0_pay51]; rfl
  · pointwise [k0_pay57, k0_pay52]; rfl
  · pointwise [k0_pay84, k0_pay80]; rfl
  · pointwise [k0_pay85, k0_pay81]; rfl
  · pointwise [k0_pay113, k0_pay112]; rfl
  · pointwise [k0_pay114, k0_pay109]; rfl

/-- The corners, where a row's and a column's correction both took the corner's tap. -/
theorem corners_on (a0 : FVec Ideal S27x1 .f32) (w : Vec Ideal S1x1x1x1 .f32) (j : S1x1x1x1.Idx) :
    (k0_pay58 a0 w j = w j + a0 (ix2 (row 0 0 0) 0) ∧ k0_pay60 a0 (k0_pay59 w) j = w j + a0 (ix2 (row 0 0 2) 0)
        ∧ k0_pay61 a0 w j = w j + a0 (ix2 (row 0 2 0) 0) ∧ k0_pay62 a0 w j = w j + a0 (ix2 (row 0 2 2) 0))
      ∧ (k0_pay86 a0 w j = w j + a0 (ix2 (row 1 0 0) 0) ∧ k0_pay88 (k0_pay87 a0 w) j = w j + a0 (ix2 (row 1 0 2) 0)
        ∧ k0_pay89 a0 w j = w j + a0 (ix2 (row 1 2 0) 0) ∧ k0_pay90 a0 w j = w j + a0 (ix2 (row 1 2 2) 0))
      ∧ k0_pay115 a0 w j = w j + a0 (ix2 (row 2 0 0) 0) ∧ k0_pay116 a0 w j = w j + a0 (ix2 (row 2 0 2) 0)
        ∧ k0_pay1 a0 (k0_pay117 w) j = w j + a0 (ix2 (row 2 2 0) 0) ∧ k0_pay2 a0 w j = w j + a0 (ix2 (row 2 2 2) 0) := by
  obtain rfl : j = ix4 0 0 0 0 := funext fun d => by fin_cases d <;> exact Subsingleton.elim (α := Fin 1) _ _
  refine ⟨⟨?_, ?_, ?_, ?_⟩, ⟨?_, ?_, ?_, ?_⟩, ?_, ?_, ?_, ?_⟩
  · pointwise [k0_pay58]; rfl
  · pointwise [k0_pay60, k0_pay59]; rfl
  · pointwise [k0_pay61]; rfl
  · pointwise [k0_pay62]; rfl
  · pointwise [k0_pay86]; rfl
  · pointwise [k0_pay88, k0_pay87]; rfl
  · pointwise [k0_pay89]; rfl
  · pointwise [k0_pay90]; rfl
  · pointwise [k0_pay115]; rfl
  · pointwise [k0_pay116]; rfl
  · pointwise [k0_pay1, k0_pay117]; rfl
  · pointwise [k0_pay2]; rfl

/-- The length that a table's row is divided by: the row's norm, but no less than one. -/
def scale {n : ℕ} (w : Fin n → EReal) : EReal := Ideal.div 1 (max (Ideal.sqrt (∑ x, w x * w x)) 1)

/-- A class row brought to length at most one. -/
theorem class_row (w : Vec Ideal S1x64 .f32) (j : Fin 64) :
    k0_pay3 w (ix2 0 j) = w (ix2 0 j) * scale fun k => w (ix2 0 k) := by
  pointwise [k0_pay3]
  rfl

/-- The first mask row brought to length at most one. -/
theorem mask_row (w : Vec Ideal S1x128 .f32) (j : Fin 128) :
    k0_pay4 w (ix2 0 j) = w (ix2 0 j) * scale fun k => w (ix2 0 k) := by
  pointwise [k0_pay4]
  rfl

/-- What the second mask row has over the first. -/
theorem mask_step (w w' : Vec Ideal S1x128 .f32) (j : Fin 128) :
    k0_pay5 w w' (ix2 0 j) = w' (ix2 0 j) * (scale fun k => w' (ix2 0 k)) - w (ix2 0 j) * scale fun k => w (ix2 0 k) := by
  pointwise [k0_pay5, k0_pay4]
  rfl

/-- The first mask row's part of each tap. -/
theorem tap_base (e : FVec Ideal S1x128 .f32) (w : Vec Ideal S27x128 .f32) (r : Fin 27) :
    k0_pay8 e w (ix2 r 0) = ∑ k, w (ix2 r k) * e (ix2 0 k) := by
  pointwise [k0_pay8, k0_pay7]

/-- The second mask row's part of each tap, over the first's. -/
theorem tap_step (e : FVec Ideal S1x128 .f32) (w : Vec Ideal S27x128 .f32) (r : Fin 27) :
    k0_pay9 e w (ix2 r 0) = ∑ k, w (ix2 r k) * e (ix2 0 k) := by
  pointwise [k0_pay9, k0_pay7]

/-- The image's own constant for each channel, from its noise and its class. -/
theorem image_const (c : FVec Ideal S1x64 .f32) (n : Vec Ideal S1x128 .f32) (u : Vec Ideal S128x3 .f32) (v : Vec Ideal S64x3 .f32)
    (b : Vec Ideal S1x3 .f32) (o : Fin 3) :
    k0_pay6 c n u v b (ix2 0 o) = ∑ k, n (ix2 0 k) * u (ix2 k o) + ∑ k, c (ix2 0 k) * v (ix2 k o) + b (ix2 0 o) := by
  pointwise [k0_pay6]

/-- The small weights and the bias are taken as they are. -/
theorem weights_id (w : Vec Ideal S27x3 .f32) (b : Vec Ideal S1x3 .f32) : k0_pay10 w = w ∧ k0_pay11 b = b := by
  refine ⟨funext fun j => ?_, funext fun j => ?_⟩
  · rw [eq_ix2 j]; pointwise [k0_pay10]
  · rw [eq_ix2 j]; pointwise [k0_pay11]

/-- The mask as numbers. -/
theorem mask_float (w : Vec Ideal S1x1x224x224 .i32) (y x : Fin 224) :
    k0_pay12 (F := Ideal) w (ix2 y x) = (((show BitVec 32 from w (ix4 0 0 y x)).toInt : ℝ) : EReal) := by
  pointwise [k0_pay12]
  rfl

/-- The rows stored into the shifted planes are the rows loaded. -/
theorem plane_rows (w : Vec Ideal S1x1x223x224 .f32) (v : Vec Ideal S223x224 .f32) (y : Fin 223) (x : Fin 224) :
    (k0_pay15 (k0_pay13 w) (ix3 0 y x) = w (ix4 0 0 y x) ∧ k0_pay16 w (ix3 0 y x) = w (ix4 0 0 y x)
        ∧ k0_pay21 (k0_pay18 w) (ix3 0 y x) = w (ix4 0 0 y x) ∧ k0_pay22 (k0_pay19 w) (ix3 0 y x) = w (ix4 0 0 y x)
        ∧ k0_pay25 w (ix3 0 y x) = w (ix4 0 0 y x) ∧ k0_pay26 w (ix3 0 y x) = w (ix4 0 0 y x))
      ∧ k0_pay30 v (ix3 0 y x) = v (ix2 y x) ∧ k0_pay31 v (ix3 0 y x) = v (ix2 y x) := by
  refine ⟨⟨?_, ?_, ?_, ?_, ?_, ?_⟩, ?_, ?_⟩
  · pointwise [k0_pay15, k0_pay13]
  · pointwise [k0_pay16]
  · pointwise [k0_pay21, k0_pay18]
  · pointwise [k0_pay22, k0_pay19]
  · pointwise [k0_pay25]
  · pointwise [k0_pay26]
  · pointwise [k0_pay30]
  · pointwise [k0_pay31]

/-- The rows stored at an image's edge, and the fresh accumulator, are zero. -/
theorem zeros (x : Fin 224) (a : Fin 3) (y : Fin 224) (z : Fin 226) :
    (k0_pay14 (F := Ideal) (ix3 0 0 x) = 0 ∧ k0_pay17 (F := Ideal) (ix3 0 0 x) = 0 ∧ k0_pay20 (F := Ideal) (ix3 0 0 x) = 0
        ∧ k0_pay23 (F := Ideal) (ix3 0 0 x) = 0 ∧ k0_pay24 (F := Ideal) (ix3 0 0 x) = 0 ∧ k0_pay28 (k0_pay27 (F := Ideal)) (ix3 0 0 x) = 0
        ∧ k0_pay29 (F := Ideal) (ix3 0 0 x) = 0 ∧ k0_pay32 (F := Ideal) (ix3 0 0 x) = 0)
      ∧ k0_pay33 (F := Ideal) (ix3 a y z) = 0 := by
  refine ⟨⟨?_, ?_, ?_, ?_, ?_, ?_, ?_, ?_⟩, ?_⟩
  · pointwise [k0_pay14]
  · pointwise [k0_pay17]
  · pointwise [k0_pay20]
  · pointwise [k0_pay23]
  · pointwise [k0_pay24]
  · pointwise [k0_pay28, k0_pay27]
  · pointwise [k0_pay29]
  · pointwise [k0_pay32]
  · pointwise [k0_pay33]

end Cert.KernelIdeal.Val

end
end
-- ==== Proof.Loads.lean ====
module

public import proofs.«01_k».proof.Proof.FrameIdeal
public import proofs.«01_k».proof.Proof.Pieces
public import proofs.«01_k».proof.Proof.Taps

/-! What the body's loads read, in terms of its input blocks: the image's channels and the mask moved by a row, the
    weights, and the parts of the taps that the mask table gives. -/

@[expose] public section

set_option maxRecDepth 16384

noncomputable section

namespace Cert.KernelIdeal.Val
open Idealize.ShloMosaic Idealize.ShloMosaic.Pointwise Idealize.SL.Sem Cert.KernelIdeal Cert.KernelIdeal.Gen Cert.KernelIdeal.Body

/-! ## The values -/

/-- A picture moved one row down, zero in its first row. -/
def down (g : Fin 224 → Fin 224 → EReal) (y x : Fin 224) : EReal := if h : 1 ≤ y.val then g ⟨y.val - 1, by omega⟩ x else 0

/-- A picture moved one row up, zero in its last row. -/
def up (g : Fin 224 → Fin 224 → EReal) (y x : Fin 224) : EReal := if h : y.val < 223 then g ⟨y.val + 1, by omega⟩ x else 0

/-- The four pictures the stencil runs over: the image's three channels and the mask as numbers. -/
def pics (x1 : Vec Ideal S1x3x224x224 .f32) (x2 : Vec Ideal S1x1x224x224 .i32) : Fin 4 → Fin 224 → Fin 224 → EReal :=
  ![fun y x => x1 (ix4 0 0 y x), fun y x => x1 (ix4 0 1 y x), fun y x => x1 (ix4 0 2 y x), fun y x => (((show BitVec 32 from x2 (ix4 0 0 y x)).toInt : ℝ) : EReal)]

/-- Each picture from the row above, at and below. -/
def srcs (x1 : Vec Ideal S1x3x224x224 .f32) (x2 : Vec Ideal S1x1x224x224 .i32) (k : Fin 4) : Fin 3 → Fin 224 → Fin 224 → EReal :=
  ![down (pics x1 x2 k), pics x1 x2 k, up (pics x1 x2 k)]

/-- Row `j` of the mask table brought to length at most one. -/
def maskRow (x5 : Vec Ideal S2x128 .f32) (j : Fin 2) (k : Fin 128) : EReal := x5 (ix2 j k) * scale fun k => x5 (ix2 j k)

/-- The part of tap `r` that a pixel off the mask has. -/
def base (x5 : Vec Ideal S2x128 .f32) (x7 : Vec Ideal S27x128 .f32) (r : Fin 27) : EReal := ∑ k, x7 (ix2 r k) * maskRow x5 0 k

/-- What a pixel on the mask has more. -/
def step (x5 : Vec Ideal S2x128 .f32) (x7 : Vec Ideal S27x128 .f32) (r : Fin 27) : EReal := ∑ k, x7 (ix2 r k) * (maskRow x5 1 k - maskRow x5 0 k)

/-- The weight of each row for each of the four pictures. -/
def wts (x5 : Vec Ideal S2x128 .f32) (x6 : Vec Ideal S27x3 .f32) (x7 : Vec Ideal S27x128 .f32) (r : Fin 27) : Fin 4 → EReal :=
  ![x6 (ix2 r 0), x6 (ix2 r 1), x6 (ix2 r 2), step x5 x7 r]

/-! ## The loads -/

/-- A load from a buffer that holds `X`. -/
theorem load_unit {sp : Space} {s : Shape} {e : EltTy} (a : Memref sig .tc sp s e) (h : a.IsWhole) (X : Vec Ideal s e) (B : LoadRect s) (j : B.shape.Idx) :
    a.view.readAt (Elt Ideal) B (h.unread X) j = X (B.idx j) := by
  rw [View.readAt_apply, Memref.IsWhole.read_unread]

/-- The plane of index `k`, loaded whole, at a pixel. -/
theorem load_plane (a : Memref sig .tc .vmem S8x224x224 .f32) (L : List (View.Piece (Elt Ideal) S8x224x224 .f32)) (k : Fin 8) (inb) (y x : Fin 224) :
    a.view.readCov L (Rect.unit (s := S8x224x224) ![k.val, 0, 0] S1x224x224.size inb).toLoadRect (ix3 0 y x) = View.canon L (ix3 k y x) := by
  refine (congrFun (View.readCov_eq_canon' _ _ _) _).trans (congrArg (View.canon L) (funext fun d => ?_))
  fin_cases d
  exacts [Fin.ext (by show k.val + 1 * 0 = k.val; omega), Fin.ext (by show 0 + 1 * y.val = y.val; omega), Fin.ext (by show 0 + 1 * x.val = x.val; omega)]

variable (c : Dev nD)
    (arg2 : Memref sig .tc .vmem S1x3x224x224 .f32) (harg2 : arg2.IsWhole)
    (arg3 : Memref sig .tc .vmem S1x1x224x224 .i32) (harg3 : arg3.IsWhole)
    (arg6 : Memref sig .tc .vmem S2x128 .f32) (harg6 : arg6.IsWhole)
    (arg7 : Memref sig .tc .vmem S27x3 .f32) (harg7 : arg7.IsWhole)
    (arg8 : Memref sig .tc .vmem S27x128 .f32) (harg8 : arg8.IsWhole)
    (arg14 : Memref sig .tc .vmem S8x224x224 .f32) (arg15 : Memref sig .tc .vmem S224x224 .f32)
    (x1 : Vec Ideal S1x3x224x224 .f32) (x2 : Vec Ideal S1x1x224x224 .i32) (x5 : Vec Ideal S2x128 .f32) (x6 : Vec Ideal S27x3 .f32)
    (x7 : Vec Ideal S27x128 .f32)

/-- The mask's scratch holds the mask as numbers. -/
theorem mask_at (y x : Fin 224) :
    View.canon (bodyRun.sl.HS1_1 (F := Ideal) c arg3 harg3 x2) (ix2 y x) = pics x1 x2 3 y x := by
  unfold bodyRun.sl.HS1_1
  have h : ∀ d : Fin 2, (![0, 0] : Fin 2 → ℕ) d ≤ (ix2 y x d).val ∧ (ix2 y x d).val < (![0, 0] : Fin 2 → ℕ) d + S224x224.size d := fun d => by
    fin_cases d
    exacts [⟨Nat.zero_le _, by show y.val < 0 + 224; omega⟩, ⟨Nat.zero_le _, by show x.val < 0 + 224; omega⟩]
  rw [canon_unit, dif_pos h]
  have e : Rect.unitLocal (s := S224x224) (off := ![0, 0]) (size := S224x224.size) (ix2 y x) h = ix2 y x := funext fun d => by
    fin_cases d
    exacts [Fin.ext (by show y.val - 0 = y.val; omega), Fin.ext (by show x.val - 0 = x.val; omega)]
  rw [e]
  refine (mask_float _ y x).trans ?_
  rw [load_unit]
  have e2 : (Rect.unit (s := S1x1x224x224) ![0, 0, 0, 0] S1x1x224x224.size inb_S1x1x224x224_S1x1x224x224_0_0_0_0).toLoadRect.idx (ix4 0 0 y x) = ix4 0 0 y x := funext fun d => by
    fin_cases d
    exacts [rfl, rfl, Fin.ext (by show 0 + 1 * y.val = y.val; omega), Fin.ext (by show 0 + 1 * x.val = x.val; omega)]
  rw [e2]
  rfl

/-- Rows of the mask's scratch, from row `n` on. -/
theorem mask_rows (n : ℕ) {h w : ℕ} (inb) (y : Fin h) (x : Fin w) (y' x' : Fin 224) (hy : y'.val = n + y.val) (hx : x'.val = x.val) :
    arg15.view.readCov (bodyRun.sl.HS1_1 (F := Ideal) c arg3 harg3 x2) (Rect.unit (s := S224x224) ![n, 0] ![h, w] inb).toLoadRect (ix2 y x)
      = pics x1 x2 3 y' x' := by
  refine (congrFun (View.readCov_eq_canon' _ _ _) _).trans (Eq.trans (congrArg (View.canon _) (funext fun d => ?_)) (mask_at c arg3 harg3 x1 x2 y' x'))
  fin_cases d
  exacts [Fin.ext (by show n + 1 * y.val = y'.val; omega), Fin.ext (by show 0 + 1 * x.val = x'.val; omega)]

/-- Rows of one channel of the image block, from row `n` on. -/
theorem image_rows (o n : ℕ) (ho : o < 3) {h : ℕ} (inb) (a : Fin 1) (b : Fin 1) (y : Fin h) (x : Fin 224) (y' : Fin 224) (hy : y'.val = n + y.val) :
    arg2.view.readAt (Elt Ideal) (Rect.unit (s := S1x3x224x224) ![0, o, n, 0] ![1, 1, h, 224] inb).toLoadRect (harg2.unread x1) (ix4 a b y x)
      = x1 (ix4 0 ⟨o, ho⟩ y' x) := by
  rw [load_unit]
  refine congrArg x1 (funext fun d => ?_)
  have ha := a.isLt
  have hb := b.isLt
  fin_cases d
  exacts [Fin.ext (by show 0 + 1 * a.val = 0; omega), Fin.ext (by show o + 1 * b.val = o; omega), Fin.ext (by show n + 1 * y.val = y'.val; omega), Fin.ext (by show 0 + 1 * x.val = x.val; omega)]

/-- The eight shifted planes: each picture moved down, then up. -/
theorem planes (y x : Fin 224) :
    (View.canon (bodyRun.sl.HS0_16 (F := Ideal) c arg2 harg2 arg3 harg3 arg15 x1 x2) (ix3 0 y x) = down (pics x1 x2 0) y x
        ∧ View.canon (bodyRun.sl.HS0_16 (F := Ideal) c arg2 harg2 arg3 harg3 arg15 x1 x2) (ix3 1 y x) = up (pics x1 x2 0) y x)
      ∧ (View.canon (bodyRun.sl.HS0_16 (F := Ideal) c arg2 harg2 arg3 harg3 arg15 x1 x2) (ix3 2 y x) = down (pics x1 x2 1) y x
        ∧ View.canon (bodyRun.sl.HS0_16 (F := Ideal) c arg2 harg2 arg3 harg3 arg15 x1 x2) (ix3 3 y x) = up (pics x1 x2 1) y x)
      ∧ (View.canon (bodyRun.sl.HS0_16 (F := Ideal) c arg2 harg2 arg3 harg3 arg15 x1 x2) (ix3 4 y x) = down (pics x1 x2 2) y x
        ∧ View.canon (bodyRun.sl.HS0_16 (F := Ideal) c arg2 harg2 arg3 harg3 arg15 x1 x2) (ix3 5 y x) = up (pics x1 x2 2) y x)
      ∧ View.canon (bodyRun.sl.HS0_16 (F := Ideal) c arg2 harg2 arg3 harg3 arg15 x1 x2) (ix3 6 y x) = down (pics x1 x2 3) y x
        ∧ View.canon (bodyRun.sl.HS0_16 (F := Ideal) c arg2 harg2 arg3 harg3 arg15 x1 x2) (ix3 7 y x) = up (pics x1 x2 3) y x := by
  unfold bodyRun.sl.HS0_16
  have hz := (zeros x 0 0 0).1
  refine ⟨⟨?_, ?_⟩, ⟨?_, ?_⟩, ⟨?_, ?_⟩, ?_, ?_⟩
  · iterate 14 refine (skip3 _ _ _ _ _ _ _ _ _ _ rfl (by decide)).trans ?_
    refine (plane_down 0 _ _ _ _ _ y x).trans ?_
    rw [hz.1]
    refine dite_congr rfl (fun h => ?_) fun _ => rfl
    exact ((plane_rows _ (fun _ => 0) _ _).1.1).trans (image_rows arg2 harg2 x1 0 0 (by decide) _ _ _ _ _ _ (by show y.val - 1 = 0 + (y.val - 1); omega))
  · iterate 12 refine (skip3 _ _ _ _ _ _ _ _ _ _ rfl (by decide)).trans ?_
    refine (plane_up 1 _ _ _ _ _ y x).trans ?_
    rw [hz.2.1]
    refine dite_congr rfl (fun h => ?_) fun _ => rfl
    exact ((plane_rows _ (fun _ => 0) _ _).1.2.1).trans (image_rows arg2 harg2 x1 0 1 (by decide) _ _ _ _ _ _ (by show y.val + 1 = 1 + y.val; omega))
  · iterate 10 refine (skip3 _ _ _ _ _ _ _ _ _ _ rfl (by decide)).trans ?_
    refine (plane_down 2 _ _ _ _ _ y x).trans ?_
    rw [hz.2.2.1]
    refine dite_congr rfl (fun h => ?_) fun _ => rfl
    exact ((plane_rows _ (fun _ => 0) _ _).1.2.2.1).trans (image_rows arg2 harg2 x1 1 0 (by decide) _ _ _ _ _ _ (by show y.val - 1 = 0 + (y.val - 1); omega))
  · iterate 8 refine (skip3 _ _ _ _ _ _ _ _ _ _ rfl (by decide)).trans ?_
    refine (plane_up 3 _ _ _ _ _ y x).trans ?_
    rw [hz.2.2.2.1]
    refine dite_congr rfl (fun h => ?_) fun _ => rfl
    exact ((plane_rows _ (fun _ => 0) _ _).1.2.2.2.1).trans (image_rows arg2 harg2 x1 1 1 (by decide) _ _ _ _ _ _ (by show y.val + 1 = 1 + y.val; omega))
  · iterate 6 refine (skip3 _ _ _ _ _ _ _ _ _ _ rfl (by decide)).trans ?_
    refine (plane_down 4 _ _ _ _ _ y x).trans ?_
    rw [hz.2.2.2.2.1]
    refine dite_congr rfl (fun h => ?_) fun _ => rfl
    exact ((plane_rows _ (fun _ => 0) _ _).1.2.2.2.2.1).trans (image_rows arg2 harg2 x1 2 0 (by decide) _ _ _ _ _ _ (by show y.val - 1 = 0 + (y.val - 1); omega))
  · iterate 4 refine (skip3 _ _ _ _ _ _ _ _ _ _ rfl (by decide)).trans ?_
    refine (plane_up 5 _ _ _ _ _ y x).trans ?_
    rw [hz.2.2.2.2.2.1]
    refine dite_congr rfl (fun h => ?_) fun _ => rfl
    exact ((plane_rows _ (fun _ => 0) _ _).1.2.2.2.2.2).trans (image_rows arg2 harg2 x1 2 1 (by decide) _ _ _ _ _ _ (by show y.val + 1 = 1 + y.val; omega))
  · iterate 2 refine (skip3 _ _ _ _ _ _ _ _ _ _ rfl (by decide)).trans ?_
    refine (plane_down 6 _ _ _ _ _ y x).trans ?_
    rw [hz.2.2.2.2.2.2.1]
    refine dite_congr rfl (fun h => ?_) fun _ => rfl
    exact ((plane_rows (fun _ => 0) _ _ _).2.1).trans (mask_rows c arg3 harg3 arg15 x1 x2 0 _ _ _ _ _ (by show y.val - 1 = 0 + (y.val - 1); omega) rfl)
  · refine (plane_up 7 _ _ _ _ _ y x).trans ?_
    rw [hz.2.2.2.2.2.2.2]
    refine dite_congr rfl (fun h => ?_) fun _ => rfl
    exact ((plane_rows (fun _ => 0) _ _ _).2.2).trans (mask_rows c arg3 harg3 arg15 x1 x2 1 _ _ _ _ _ (by show y.val + 1 = 1 + y.val; omega) rfl)

/-- A whole weight table loaded. -/
theorem load2 {sp : Space} {n k : ℕ} (a : Memref sig .tc sp ⟨2, ![n, k]⟩ .f32) (h : a.IsWhole) (X : Vec Ideal ⟨2, ![n, k]⟩ .f32) (o : ℕ) {n' : ℕ} (inb)
    (i : Fin n') (j : Fin k) (i' : Fin n) (hi : i'.val = o + i.val) :
    a.view.readAt (Elt Ideal) (Rect.unit (s := ⟨2, ![n, k]⟩) ![o, 0] ![n', k] inb).toLoadRect (h.unread X) (ix2 i j) = X (ix2 i' j) := by
  rw [load_unit]
  refine congrArg X (funext fun d => ?_)
  fin_cases d
  exacts [Fin.ext (by show o + 1 * i.val = i'.val; omega), Fin.ext (by show 0 + 1 * j.val = j.val; omega)]

/-- The tap parts the body works with. -/
theorem taps_at (r : Fin 27) :
    bodyRun.sl.r_6 (F := Ideal) c arg6 harg6 arg8 harg8 x5 x7 (ix2 r 0) = base x5 x7 r
      ∧ bodyRun.sl.r_7 (F := Ideal) c arg6 harg6 arg8 harg8 x5 x7 (ix2 r 0) = step x5 x7 r := by
  unfold bodyRun.sl.r_6 bodyRun.sl.r_7 bodyRun.sl.r_2 bodyRun.sl.r_3 base step maskRow
  have q8 := fun k => load2 arg8 harg8 x7 0 inb_S27x128_S27x128_0_0 r k r (Nat.zero_add _).symm
  have q0 := fun k => load2 arg6 harg6 x5 0 inb_S2x128_S1x128_0_0 (0 : Fin 1) k 0 rfl
  have q1 := fun k => load2 arg6 harg6 x5 1 inb_S2x128_S1x128_1_0 (0 : Fin 1) k 1 rfl
  refine ⟨(tap_base _ _ r).trans (Finset.sum_congr rfl fun k _ => ?_), (tap_step _ _ r).trans (Finset.sum_congr rfl fun k _ => ?_)⟩
  · rw [mask_row]
    exact congrArg₂ (· * ·) (q8 k) (congrArg₂ (· * ·) (q0 k) (congrArg scale (funext q0)))
  · rw [mask_step]
    exact congrArg₂ (· * ·) (q8 k) (congrArg₂ (· - ·) (congrArg₂ (· * ·) (q1 k) (congrArg scale (funext q1)))
      (congrArg₂ (· * ·) (q0 k) (congrArg scale (funext q0))))

/-- The vectors the body's shifts are computed from hold the weights and the sources. -/
theorem sources :
    Sources (wts x5 x6 x7) (srcs x1 x2) (bodyRun.sl.r_7 (F := Ideal) c arg6 harg6 arg8 harg8 x5 x7) (bodyRun.sl.r_8 (F := Ideal) c arg7 harg7 x6)
      (bodyRun.sl.v146 (F := Ideal) c arg2 harg2 arg3 harg3 arg14 arg15 x1 x2) (bodyRun.sl.v157 (F := Ideal) c arg2 harg2 arg3 harg3 arg14 arg15 x1 x2)
      (bodyRun.sl.v163 (F := Ideal) c arg2 harg2 arg3 harg3 arg14 arg15 x1 x2) (bodyRun.sl.v175 (F := Ideal) c arg2 harg2 arg3 harg3 arg14 arg15 x1 x2)
      (bodyRun.sl.v181 (F := Ideal) c arg2 harg2 arg3 harg3 arg14 arg15 x1 x2) (bodyRun.sl.v193 (F := Ideal) c arg2 harg2 arg3 harg3 arg14 arg15 x1 x2)
      (bodyRun.sl.v199 (F := Ideal) c arg2 harg2 arg3 harg3 arg14 arg15 x1 x2) (bodyRun.sl.v210 (F := Ideal) c arg2 harg2 arg3 harg3 arg14 arg15 x1 x2)
      (View.readAt (Elt Ideal) arg2.view (Rect.unit (s := S1x3x224x224) ![0, 0, 0, 0] S1x1x224x224.size inb_S1x3x224x224_S1x1x224x224_0_0_0_0).toLoadRect (harg2.unread x1))
      (View.readAt (Elt Ideal) arg2.view (Rect.unit (s := S1x3x224x224) ![0, 1, 0, 0] S1x1x224x224.size inb_S1x3x224x224_S1x1x224x224_0_1_0_0).toLoadRect (harg2.unread x1))
      (View.readAt (Elt Ideal) arg2.view (Rect.unit (s := S1x3x224x224) ![0, 2, 0, 0] S1x1x224x224.size inb_S1x3x224x224_S1x1x224x224_0_2_0_0).toLoadRect (harg2.unread x1))
      (bodyRun.sl.v205 (F := Ideal) c arg3 harg3 arg15 x2) where
  w3 r := (taps_at c arg6 harg6 arg8 harg8 x5 x7 r).2
  w0 r := (congrFun (weights_id _ (fun _ => 0)).1 _).trans (load2 arg7 harg7 x6 0 _ _ _ _ (Nat.zero_add _).symm)
  w1 r := (congrFun (weights_id _ (fun _ => 0)).1 _).trans (load2 arg7 harg7 x6 0 _ _ _ _ (Nat.zero_add _).symm)
  w2 r := (congrFun (weights_id _ (fun _ => 0)).1 _).trans (load2 arg7 harg7 x6 0 _ _ _ _ (Nat.zero_add _).symm)
  s00 y x := (load_plane arg14 _ 0 _ y x).trans (planes c arg2 harg2 arg3 harg3 arg15 x1 x2 y x).1.1
  s01 y x := image_rows arg2 harg2 x1 0 0 (by decide) _ _ _ _ _ _ (Nat.zero_add _).symm
  s02 y x := (load_plane arg14 _ 1 _ y x).trans (planes c arg2 harg2 arg3 harg3 arg15 x1 x2 y x).1.2
  s10 y x := (load_plane arg14 _ 2 _ y x).trans (planes c arg2 harg2 arg3 harg3 arg15 x1 x2 y x).2.1.1
  s11 y x := image_rows arg2 harg2 x1 1 0 (by decide) _ _ _ _ _ _ (Nat.zero_add _).symm
  s12 y x := (load_plane arg14 _ 3 _ y x).trans (planes c arg2 harg2 arg3 harg3 arg15 x1 x2 y x).2.1.2
  s20 y x := (load_plane arg14 _ 4 _ y x).trans (planes c arg2 harg2 arg3 harg3 arg15 x1 x2 y x).2.2.1.1
  s21 y x := image_rows arg2 harg2 x1 2 0 (by decide) _ _ _ _ _ _ (Nat.zero_add _).symm
  s22 y x := (load_plane arg14 _ 5 _ y x).trans (planes c arg2 harg2 arg3 harg3 arg15 x1 x2 y x).2.2.1.2
  s30 y x := (load_plane arg14 _ 6 _ y x).trans (planes c arg2 harg2 arg3 harg3 arg15 x1 x2 y x).2.2.2.1
  s31 y x := mask_rows c arg3 harg3 arg15 x1 x2 0 _ _ _ _ _ (Nat.zero_add _).symm rfl
  s32 y x := (load_plane arg14 _ 7 _ y x).trans (planes c arg2 harg2 arg3 harg3 arg15 x1 x2 y x).2.2.2.2

end Cert.KernelIdeal.Val

end
end
-- ==== Proof.Block.lean ====
module

public import proofs.«01_k».proof.Proof.Loads

/-! The block the body leaves, in closed form: every pixel of every channel in terms of the input blocks. -/

@[expose] public section

set_option maxRecDepth 16384

noncomputable section

namespace Cert.KernelIdeal.Val
open Idealize.ShloMosaic Idealize.ShloMosaic.Pointwise Idealize.SL.Sem Cert.KernelIdeal Cert.KernelIdeal.Gen Cert.KernelIdeal.Body

/-- What the three shifts leave in the accumulator for one pixel. -/
def shiftSum (W : Fin 27 → Fin 4 → EReal) (S : Fin 4 → Fin 3 → Fin 224 → Fin 224 → EReal) (o : Fin 3) (y x : Fin 224) : EReal :=
  let u := (if h : 1 ≤ x.val then 0 + tap W S o 0 y ⟨x.val - 1, by omega⟩ else 0) + tap W S o 1 y x
  if h : x.val + 1 < 224 then u + tap W S o 2 y ⟨x.val + 1, h⟩ else u

/-- One pixel of the output: the accumulator's value `acc`, the channel's constant `cst` and all nine taps' parts `A`,
    with the parts of the taps that fall outside the image taken off again. -/
def pixel (A : Fin 27 → EReal) (acc cst : EReal) (o : Fin 3) (y x : Fin 224) : EReal :=
  border (acc + (cst + ∑ k : Fin 9, A ⟨o.val * 9 + k.val, by omega⟩)) (∑ k, A (row o 0 k)) (∑ k, A (row o 2 k))
    (A (row o 0 0) + A (row o 1 0) + A (row o 2 0)) (A (row o 0 2) + A (row o 1 2) + A (row o 2 2))
    (A (row o 0 0)) (A (row o 0 2)) (A (row o 2 0)) (A (row o 2 2)) y x

/-- A channel of the accumulator that was clear, loaded at the image's own columns once its three shifts are done. -/
theorem acc_chan (a : Memref sig .tc .vmem S3x224x226 .f32) (o : ℕ) (ho : o < 3) (L0 : List (View.Piece (Elt Ideal) S3x224x226 .f32)) (w0 w1 w2 : Vec Ideal S1x224x224 .f32) (i0 i1 i2 i)
    (W : Fin 27 → Fin 4 → EReal) (S : Fin 4 → Fin 3 → Fin 224 → Fin 224 → EReal) (y x : Fin 224)
    (hz : ∀ z, View.canon L0 (ix3 (⟨o, ho⟩ : Fin 3) y z) = 0)
    (h0 : ∀ (b : Fin 1) y x, w0 (ix3 b y x) = a.view.readCov L0 (Rect.unit (s := S3x224x226) ![o, 0, 2] S1x224x224.size i0).toLoadRect (ix3 b y x) + tap W S ⟨o, ho⟩ 0 y x)
    (h1 : ∀ (b : Fin 1) y x, w1 (ix3 b y x) = a.view.readCov (⟨Rect.unit (s := S3x224x226) ![o, 0, 2] S1x224x224.size i0, w0⟩ :: L0) (Rect.unit (s := S3x224x226) ![o, 0, 1] S1x224x224.size i1).toLoadRect (ix3 b y x) + tap W S ⟨o, ho⟩ 1 y x)
    (h2 : ∀ (b : Fin 1) y x, w2 (ix3 b y x) = a.view.readCov (⟨Rect.unit (s := S3x224x226) ![o, 0, 1] S1x224x224.size i1, w1⟩ :: ⟨Rect.unit (s := S3x224x226) ![o, 0, 2] S1x224x224.size i0, w0⟩ :: L0) (Rect.unit (s := S3x224x226) ![o, 0, 0] S1x224x224.size i2).toLoadRect (ix3 b y x) + tap W S ⟨o, ho⟩ 2 y x) :
    a.view.readCov (⟨Rect.unit (s := S3x224x226) ![o, 0, 0] S1x224x224.size i2, w2⟩ :: ⟨Rect.unit (s := S3x224x226) ![o, 0, 1] S1x224x224.size i1, w1⟩ :: ⟨Rect.unit (s := S3x224x226) ![o, 0, 2] S1x224x224.size i0, w0⟩ :: L0)
        (Rect.unit (s := S3x224x226) ![o, 0, 1] S1x224x224.size i).toLoadRect (ix3 0 y x) = shiftSum W S ⟨o, ho⟩ y x := by
  simp only [View.readCov_eq_canon'] at h0 h1 h2 ⊢
  have e : (Rect.unit (s := S3x224x226) ![o, 0, 1] S1x224x224.size i).toLoadRect.idx (ix3 0 y x) = ix3 (⟨o, ho⟩ : Fin 3) y (⟨x.val + 1, by omega⟩ : Fin 226) := funext fun d => by
    fin_cases d
    exacts [Fin.ext (by show o + 1 * 0 = o; omega), Fin.ext (by show 0 + 1 * y.val = y.val; omega), Fin.ext (by show 1 + 1 * x.val = x.val + 1; omega)]
  rw [e]
  refine (acc_same o ho L0 w0 w1 w2 i0 i1 i2 (tap W S ⟨o, ho⟩ 0) (tap W S ⟨o, ho⟩ 1) (tap W S ⟨o, ho⟩ 2) h0 h1 h2 y x _ rfl).trans ?_
  simp only [hz]
  rfl

section
variable (c : Dev nD) (i : grid0.Coords)
    (arg1 : Memref sig .tc .smem S4 .i32) (harg1 : arg1.IsWhole)
    (arg2 : Memref sig .tc .vmem S1x3x224x224 .f32) (harg2 : arg2.IsWhole)
    (arg3 : Memref sig .tc .vmem S1x1x224x224 .i32) (harg3 : arg3.IsWhole)
    (arg4 : Memref sig .tc .vmem S4x128 .f32) (harg4 : arg4.IsWhole)
    (arg5 : Memref sig .tc .vmem S1000x64 .f32) (harg5 : arg5.IsWhole)
    (arg6 : Memref sig .tc .vmem S2x128 .f32) (harg6 : arg6.IsWhole)
    (arg7 : Memref sig .tc .vmem S27x3 .f32) (harg7 : arg7.IsWhole)
    (arg8 : Memref sig .tc .vmem S27x128 .f32) (harg8 : arg8.IsWhole)
    (arg9 : Memref sig .tc .vmem S128x3 .f32) (harg9 : arg9.IsWhole)
    (arg10 : Memref sig .tc .vmem S64x3 .f32) (harg10 : arg10.IsWhole)
    (arg11 : Memref sig .tc .vmem S1x3 .f32) (harg11 : arg11.IsWhole)
    (arg12 : Memref sig .tc .vmem S1x3 .f32) (harg12 : arg12.IsWhole)
    (arg13 : Memref sig .tc .vmem S1x3x224x224 .f32) (harg13 : arg13.IsWhole)
    (arg14 : Memref sig .tc .vmem S8x224x224 .f32) (harg14 : arg14.IsWhole)
    (arg15 : Memref sig .tc .vmem S224x224 .f32) (harg15 : arg15.IsWhole)
    (arg16 : Memref sig .tc .vmem S3x224x226 .f32) (harg16 : arg16.IsWhole)
    (x0 : Vec Ideal S4 .i32) (x1 : Vec Ideal S1x3x224x224 .f32) (x2 : Vec Ideal S1x1x224x224 .i32) (x3 : Vec Ideal S4x128 .f32) (x4 : Vec Ideal S1000x64 .f32) (x5 : Vec Ideal S2x128 .f32) (x6 : Vec Ideal S27x3 .f32) (x7 : Vec Ideal S27x128 .f32) (x8 : Vec Ideal S128x3 .f32) (x9 : Vec Ideal S64x3 .f32) (x10 : Vec Ideal S1x3 .f32) (x11 : Vec Ideal S1x3 .f32) (hrow : k0_chk1 (arg1.view.readAt (Elt Ideal) (Rect.unit (s := S4) (k0_off1 i) S1.size (k0_off1_inb i)).toLoadRect (harg1.unread x0) (Shape.Idx.first (numel1_S1.symm ▸ Nat.one_pos))))

/-- The fresh accumulator is zero. -/
theorem acc_start (o : Fin 3) (y : Fin 224) (z : Fin 226) : View.canon (bodyRun.sl.HS2_1 (F := Ideal)) (ix3 o y z) = 0 := by
  unfold bodyRun.sl.HS2_1
  have h : ∀ d : Fin 3, (![0, 0, 0] : Fin 3 → ℕ) d ≤ (ix3 o y z d).val ∧ (ix3 o y z d).val < (![0, 0, 0] : Fin 3 → ℕ) d + S3x224x226.size d :=
    (box3 o y z 0 0 0 S3x224x226.size).mpr ⟨⟨Nat.zero_le _, by show o.val < 0 + 3; omega⟩, ⟨Nat.zero_le _, by show y.val < 0 + 224; omega⟩, ⟨Nat.zero_le _, by show z.val < 0 + 226; omega⟩⟩
  rw [canon_unit, dif_pos h]
  have e : Rect.unitLocal (s := S3x224x226) (off := ![0, 0, 0]) (size := S3x224x226.size) (ix3 o y z) h = ix3 o y z := funext fun d => by
    fin_cases d
    exacts [Fin.ext (by show o.val - 0 = o.val; omega), Fin.ext (by show y.val - 0 = y.val; omega), Fin.ext (by show z.val - 0 = z.val; omega)]
  rw [e]
  exact (zeros 0 o y z).2

/-- What the body loads from the accumulator's three channels: the sums of their shifts. -/
theorem acc_at (y x : Fin 224) :
    bodyRun.sl.v380 (F := Ideal) c arg2 harg2 arg3 harg3 arg6 harg6 arg7 harg7 arg8 harg8 arg14 arg15 arg16 x1 x2 x5 x6 x7 (ix3 0 y x) = shiftSum (wts x5 x6 x7) (srcs x1 x2) 0 y x
      ∧ bodyRun.sl.v694 (F := Ideal) c arg2 harg2 arg3 harg3 arg6 harg6 arg7 harg7 arg8 harg8 arg14 arg15 arg16 x1 x2 x5 x6 x7 (ix3 0 y x) = shiftSum (wts x5 x6 x7) (srcs x1 x2) 1 y x
      ∧ bodyRun.sl.v1008 (F := Ideal) c arg2 harg2 arg3 harg3 arg6 harg6 arg7 harg7 arg8 harg8 arg14 arg15 arg16 x1 x2 x5 x6 x7 (ix3 0 y x) = shiftSum (wts x5 x6 x7) (srcs x1 x2) 2 y x := by
  have H := sources c arg2 harg2 arg3 harg3 arg6 harg6 arg7 harg7 arg8 harg8 arg14 arg15 x1 x2 x5 x6 x7
  unfold bodyRun.sl.v1008 bodyRun.sl.HS2_10 bodyRun.sl.HS2_9 bodyRun.sl.HS2_8 bodyRun.sl.v694 bodyRun.sl.HS2_7 bodyRun.sl.HS2_6 bodyRun.sl.HS2_5
    bodyRun.sl.v380 bodyRun.sl.HS2_4 bodyRun.sl.HS2_3 bodyRun.sl.HS2_2
  refine ⟨?_, ?_, ?_⟩
  · refine acc_chan arg16 0 (by decide) bodyRun.sl.HS2_1 _ _ _ _ _ _ _ (wts x5 x6 x7) (srcs x1 x2) y x (acc_start 0 y) ?_ ?_ ?_
    exacts [fun a y x => (shifts0 H _ a y x).1, fun a y x => (shifts0 H _ a y x).2.1, fun a y x => (shifts0 H _ a y x).2.2]
  · refine acc_chan arg16 1 (by decide) _ _ _ _ _ _ _ _ (wts x5 x6 x7) (srcs x1 x2) y x (fun z => (acc_other 0 1 (by decide) (by decide) _ _ _ _ _ _ _ y z).trans (acc_start 1 y z)) ?_ ?_ ?_
    exacts [fun a y x => (shifts1 H _ a y x).1, fun a y x => (shifts1 H _ a y x).2.1, fun a y x => (shifts1 H _ a y x).2.2]
  · refine acc_chan arg16 2 (by decide) _ _ _ _ _ _ _ _ (wts x5 x6 x7) (srcs x1 x2) y x
      (fun z => (acc_other 1 2 (by decide) (by decide) _ _ _ _ _ _ _ y z).trans ((acc_other 0 2 (by decide) (by decide) _ _ _ _ _ _ _ y z).trans (acc_start 2 y z))) ?_ ?_ ?_
    exacts [fun a y x => (shifts2 H _ a y x).1, fun a y x => (shifts2 H _ a y x).2.1, fun a y x => (shifts2 H _ a y x).2.2]

/-- The image's own constant for a channel: its noise and its class, each against its half of the last layer's weights. -/
def konst (n : Fin 128 → EReal) (k : Fin 64 → EReal) (x8 : Vec Ideal S128x3 .f32) (x9 : Vec Ideal S64x3 .f32) (x11 : Vec Ideal S1x3 .f32) (o : Fin 3) : EReal :=
  ∑ j, n j * x8 (ix2 j o) + ∑ j, (k j * scale k) * x9 (ix2 j o) + x11 (ix2 0 o)

/-- The load of one label reads the label of the grid point's image. -/
theorem label_at (a : Fin 1) : View.readAt (Elt Ideal) arg1.view (Rect.unit (s := S4) (k0_off1 i) S1.size (k0_off1_inb i)).toLoadRect (harg1.unread x0) (ix1 a) = x0 (ix1 (i 0)) := by
  rw [load_unit]
  refine congrArg x0 (funext fun d => ?_)
  fin_cases d
  have h4 : (i 0).val < 4 := (i 0).isLt
  exact Fin.ext (by
    show k0_off1 i 0 + 1 * a.val = (i 0).val
    have : k0_off1 i 0 = (i 0).val := by
      show (BitVec.ofNat 32 (i 0).val).toNat = (i 0).val
      rw [BitVec.toNat_ofNat]; omega
    omega)

/-- The image's constant as the body computes it. -/
theorem konst_at (lbl : Fin 1000) (hl : lbl.val = (show BitVec 32 from x0 (ix1 (i 0))).toNat) (o : Fin 3) :
    bodyRun.sl.r_5 (F := Ideal) c i arg1 harg1 arg4 harg4 arg5 harg5 arg9 harg9 arg10 harg10 arg12 harg12 x0 x3 x4 x8 x9 x11 hrow (ix2 0 o)
      = konst (fun k => x3 (ix2 (i 0) k)) (fun k => x4 (ix2 lbl k)) x8 x9 x11 o := by
  have h4 : (i 0).val < 4 := (i 0).isLt
  have hn : ∀ k : Fin 128, bodyRun.sl.r_4 (F := Ideal) c i arg4 harg4 x3 (ix2 0 k) = x3 (ix2 (i 0) k) := fun k => by
    unfold bodyRun.sl.r_4
    rw [load_unit]
    refine congrArg x3 (funext fun d => ?_)
    fin_cases d
    · exact Fin.ext (by
        show k0_off3 i 0 + 1 * 0 = (i 0).val
        have : k0_off3 i 0 = (i 0).val := by
          show (BitVec.ofNat 32 (i 0).val).toNat = (i 0).val
          rw [BitVec.toNat_ofNat]; omega
        omega)
    · exact Fin.ext (by show 0 + 1 * k.val = k.val; omega)
  have hk : ∀ k : Fin 64, View.readAt (Elt Ideal) arg5.view (Rect.unit (s := S1000x64) (k0_off2 (bodyRun.sl.r (F := Ideal) c i arg1 harg1 x0)) S1x64.size (k0_off2_inb _ hrow)).toLoadRect (harg5.unread x4) (ix2 0 k) = x4 (ix2 lbl k) := fun k => by
    rw [load_unit]
    refine congrArg x4 (funext fun d => ?_)
    fin_cases d
    · exact Fin.ext (by
        show k0_off2 (bodyRun.sl.r (F := Ideal) c i arg1 harg1 x0) 0 + 1 * 0 = lbl.val
        have e : bodyRun.sl.r (F := Ideal) c i arg1 harg1 x0 = x0 (ix1 (i 0)) := by
          unfold bodyRun.sl.r
          exact (congrArg _ (eq_ix1 _)).trans (label_at i arg1 harg1 x0 _)
        have : k0_off2 (bodyRun.sl.r (F := Ideal) c i arg1 harg1 x0) 0 = lbl.val := by
          rw [e, hl]
          rfl
        omega)
    · exact Fin.ext (by show 0 + 1 * k.val = k.val; omega)
  unfold bodyRun.sl.r_5 bodyRun.sl.r_1 konst
  refine (image_const _ _ _ _ _ o).trans (congrArg₂ (· + ·) (congrArg₂ (· + ·) (Finset.sum_congr rfl fun k _ => congrArg₂ (· * ·) (hn k) ?_) (Finset.sum_congr rfl fun k _ => congrArg₂ (· * ·) ?_ ?_)) ?_)
  · exact load2 arg9 harg9 x8 0 _ _ _ _ (Nat.zero_add _).symm
  · rw [class_row]
    exact congrArg₂ (· * ·) (hk k) (congrArg scale (funext hk))
  · exact load2 arg10 harg10 x9 0 _ _ _ _ (Nat.zero_add _).symm
  · exact load2 arg12 harg12 x11 0 _ _ _ _ (Nat.zero_add _).symm

end

end Cert.KernelIdeal.Val

end
end
-- ==== Proof.BlockOut.lean ====
module

public import proofs.«01_k».proof.Proof.Block

/-! The output block the body leaves: the three channels' stores put together. -/

@[expose] public section

set_option maxRecDepth 16384

noncomputable section

namespace Cert.KernelIdeal.Val
open Idealize.ShloMosaic Idealize.ShloMosaic.Pointwise Idealize.SL.Sem Cert.KernelIdeal Cert.KernelIdeal.Gen Cert.KernelIdeal.Body

/-- The nine stores of one channel, as the body makes them, read at a pixel: `v` the accumulator, `b` and `lin` the channels' constants
    and `a0` the taps' parts that every pixel gets. -/
theorem chan_value (m : Memref sig .tc .vmem S1x3x224x224 .f32) (o : ℕ) (ho : o < 3) (wM wT wB wL wR w1 w2 w3 w4) (iM : InOut o 0 0 S1x1x224x224.size) (iT : InOut o 0 0 S1x1x1x224.size) (iB : InOut o 223 0 S1x1x1x224.size) (iL : InOut o 0 0 S1x1x224x1.size) (iR : InOut o 0 223 S1x1x224x1.size)
    (i1 : InOut o 0 0 S1x1x1x1.size) (i2 : InOut o 0 223 S1x1x1x1.size) (i3 : InOut o 223 0 S1x1x1x1.size) (i4 : InOut o 223 223 S1x1x1x1.size) (L)
    (v : Vec Ideal S1x224x224 .f32) (b lin : FVec Ideal S1x3 .f32) (a0 : FVec Ideal S27x1 .f32)
    (hM : ∀ (a k : Fin 1) y x, wM (ix4 a k y x) = v (ix3 0 y x) + (b (ix2 0 ⟨o, ho⟩) + lin (ix2 0 ⟨o, ho⟩) + tapAll a0 ⟨o, ho⟩))
    (hT : ∀ j, wT j = m.view.readCov (List.drop 8 (chanPieces o wM wT wB wL wR w1 w2 w3 w4 iM iT iB iL iR i1 i2 i3 i4 L)) (Rect.unit (s := S1x3x224x224) ![0, o, 0, 0] S1x1x1x224.size iT).toLoadRect j - tapRow a0 ⟨o, ho⟩ 0)
    (hB : ∀ j, wB j = m.view.readCov (List.drop 7 (chanPieces o wM wT wB wL wR w1 w2 w3 w4 iM iT iB iL iR i1 i2 i3 i4 L)) (Rect.unit (s := S1x3x224x224) ![0, o, 223, 0] S1x1x1x224.size iB).toLoadRect j - tapRow a0 ⟨o, ho⟩ 2)
    (hL : ∀ j, wL j = m.view.readCov (List.drop 6 (chanPieces o wM wT wB wL wR w1 w2 w3 w4 iM iT iB iL iR i1 i2 i3 i4 L)) (Rect.unit (s := S1x3x224x224) ![0, o, 0, 0] S1x1x224x1.size iL).toLoadRect j - tapCol a0 ⟨o, ho⟩ 0)
    (hR : ∀ j, wR j = m.view.readCov (List.drop 5 (chanPieces o wM wT wB wL wR w1 w2 w3 w4 iM iT iB iL iR i1 i2 i3 i4 L)) (Rect.unit (s := S1x3x224x224) ![0, o, 0, 223] S1x1x224x1.size iR).toLoadRect j - tapCol a0 ⟨o, ho⟩ 2)
    (h1 : ∀ j, w1 j = m.view.readCov (List.drop 4 (chanPieces o wM wT wB wL wR w1 w2 w3 w4 iM iT iB iL iR i1 i2 i3 i4 L)) (Rect.unit (s := S1x3x224x224) ![0, o, 0, 0] S1x1x1x1.size i1).toLoadRect j + a0 (ix2 (row ⟨o, ho⟩ 0 0) 0))
    (h2 : ∀ j, w2 j = m.view.readCov (List.drop 3 (chanPieces o wM wT wB wL wR w1 w2 w3 w4 iM iT iB iL iR i1 i2 i3 i4 L)) (Rect.unit (s := S1x3x224x224) ![0, o, 0, 223] S1x1x1x1.size i2).toLoadRect j + a0 (ix2 (row ⟨o, ho⟩ 0 2) 0))
    (h3 : ∀ j, w3 j = m.view.readCov (List.drop 2 (chanPieces o wM wT wB wL wR w1 w2 w3 w4 iM iT iB iL iR i1 i2 i3 i4 L)) (Rect.unit (s := S1x3x224x224) ![0, o, 223, 0] S1x1x1x1.size i3).toLoadRect j + a0 (ix2 (row ⟨o, ho⟩ 2 0) 0))
    (h4 : ∀ j, w4 j = m.view.readCov (List.drop 1 (chanPieces o wM wT wB wL wR w1 w2 w3 w4 iM iT iB iL iR i1 i2 i3 i4 L)) (Rect.unit (s := S1x3x224x224) ![0, o, 223, 223] S1x1x1x1.size i4).toLoadRect j + a0 (ix2 (row ⟨o, ho⟩ 2 2) 0))
    (y x : Fin 224) {A : Fin 27 → EReal} {acc β ℓ : EReal} (hA : ∀ r, a0 (ix2 r 0) = A r) (hv : v (ix3 0 y x) = acc) (hb : b (ix2 0 ⟨o, ho⟩) = β) (hl : lin (ix2 0 ⟨o, ho⟩) = ℓ) :
    View.canon (chanPieces o wM wT wB wL wR w1 w2 w3 w4 iM iT iB iL iR i1 i2 i3 i4 L) (ix4 (0 : Fin 1) (⟨o, ho⟩ : Fin 3) y x) = pixel A acc (β + ℓ) ⟨o, ho⟩ y x := by
  obtain rfl : (fun r => a0 (ix2 r 0)) = A := funext hA
  subst hv hb hl
  simp only [View.readCov_eq_canon'] at hT hB hL hR h1 h2 h3 h4
  exact chan_same o ho wM wT wB wL wR w1 w2 w3 w4 iM iT iB iL iR i1 i2 i3 i4 L (fun y x => v (ix3 0 y x) + (b (ix2 0 ⟨o, ho⟩) + lin (ix2 0 ⟨o, ho⟩) + tapAll a0 ⟨o, ho⟩))
    _ _ _ _ _ _ _ _ hM hT hB hL hR h1 h2 h3 h4 y x

section
variable (c : Dev nD) (i : grid0.Coords)
    (arg1 : Memref sig .tc .smem S4 .i32) (harg1 : arg1.IsWhole)
    (arg2 : Memref sig .tc .vmem S1x3x224x224 .f32) (harg2 : arg2.IsWhole)
    (arg3 : Memref sig .tc .vmem S1x1x224x224 .i32) (harg3 : arg3.IsWhole)
    (arg4 : Memref sig .tc .vmem S4x128 .f32) (harg4 : arg4.IsWhole)
    (arg5 : Memref sig .tc .vmem S1000x64 .f32) (harg5 : arg5.IsWhole)
    (arg6 : Memref sig .tc .vmem S2x128 .f32) (harg6 : arg6.IsWhole)
    (arg7 : Memref sig .tc .vmem S27x3 .f32) (harg7 : arg7.IsWhole)
    (arg8 : Memref sig .tc .vmem S27x128 .f32) (harg8 : arg8.IsWhole)
    (arg9 : Memref sig .tc .vmem S128x3 .f32) (harg9 : arg9.IsWhole)
    (arg10 : Memref sig .tc .vmem S64x3 .f32) (harg10 : arg10.IsWhole)
    (arg11 : Memref sig .tc .vmem S1x3 .f32) (harg11 : arg11.IsWhole)
    (arg12 : Memref sig .tc .vmem S1x3 .f32) (harg12 : arg12.IsWhole)
    (arg13 : Memref sig .tc .vmem S1x3x224x224 .f32) (harg13 : arg13.IsWhole)
    (arg14 : Memref sig .tc .vmem S8x224x224 .f32) (harg14 : arg14.IsWhole)
    (arg15 : Memref sig .tc .vmem S224x224 .f32) (harg15 : arg15.IsWhole)
    (arg16 : Memref sig .tc .vmem S3x224x226 .f32) (harg16 : arg16.IsWhole)
    (x0 : Vec Ideal S4 .i32) (x1 : Vec Ideal S1x3x224x224 .f32) (x2 : Vec Ideal S1x1x224x224 .i32) (x3 : Vec Ideal S4x128 .f32) (x4 : Vec Ideal S1000x64 .f32) (x5 : Vec Ideal S2x128 .f32) (x6 : Vec Ideal S27x3 .f32) (x7 : Vec Ideal S27x128 .f32) (x8 : Vec Ideal S128x3 .f32) (x9 : Vec Ideal S64x3 .f32) (x10 : Vec Ideal S1x3 .f32) (x11 : Vec Ideal S1x3 .f32) (hrow : k0_chk1 (arg1.view.readAt (Elt Ideal) (Rect.unit (s := S4) (k0_off1 i) S1.size (k0_off1_inb i)).toLoadRect (harg1.unread x0) (Shape.Idx.first (numel1_S1.symm ▸ Nat.one_pos))))

/-- Every pixel of the block the body leaves. -/
theorem block_value (lbl : Fin 1000) (hl : lbl.val = (show BitVec 32 from x0 (ix1 (i 0))).toNat) (o : Fin 3) (y x : Fin 224) :
    blockOut (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 hrow (ix4 (0 : Fin 1) o y x)
      = pixel (base x5 x7) (shiftSum (wts x5 x6 x7) (srcs x1 x2) o y x)
          (x10 (ix2 0 o) + konst (fun k => x3 (ix2 (i 0) k)) (fun k => x4 (ix2 lbl k)) x8 x9 x11 o) o y x := by
  unfold blockOut
  rw [View.read_writes_junk_eq_canon]
  have hA := fun r => (taps_at c arg6 harg6 arg8 harg8 x5 x7 r).1
  have hv := acc_at c arg2 harg2 arg3 harg3 arg6 harg6 arg7 harg7 arg8 harg8 arg14 arg15 arg16 x1 x2 x5 x6 x7 y x
  have hb : ∀ o : Fin 3, bodyRun.sl.r_9 (F := Ideal) c arg11 harg11 x10 (ix2 0 o) = x10 (ix2 0 o) := fun o =>
    (congrFun (weights_id (fun _ => 0) _).2 _).trans (load2 arg11 harg11 x10 0 _ _ _ _ (Nat.zero_add _).symm)
  have hk := konst_at c i arg1 harg1 arg4 harg4 arg5 harg5 arg9 harg9 arg10 harg10 arg12 harg12 x0 x3 x4 x8 x9 x11 hrow lbl hl
  unfold bodyRun
  dsimp only
  unfold bodyRun.sl.H12_26 bodyRun.sl.H12_25 bodyRun.sl.H12_24 bodyRun.sl.H12_23 bodyRun.sl.H12_22 bodyRun.sl.H12_21 bodyRun.sl.H12_20 bodyRun.sl.H12_19
  fin_cases o
  · refine (chan_other 2 0 (by decide) (by decide) _ _ _ _ _ _ _ _ _ _ _ _ _ _ _ _ _ _ _ y x).trans ?_
    unfold bodyRun.sl.H12_17 bodyRun.sl.H12_16 bodyRun.sl.H12_15 bodyRun.sl.H12_14 bodyRun.sl.H12_13 bodyRun.sl.H12_12 bodyRun.sl.H12_11 bodyRun.sl.H12_10
    refine (chan_other 1 0 (by decide) (by decide) _ _ _ _ _ _ _ _ _ _ _ _ _ _ _ _ _ _ _ y x).trans ?_
    unfold bodyRun.sl.H12_8 bodyRun.sl.H12_7 bodyRun.sl.H12_6 bodyRun.sl.H12_5 bodyRun.sl.H12_4 bodyRun.sl.H12_3 bodyRun.sl.H12_2 bodyRun.sl.H12_1
    refine chan_value arg13 0 (by decide) _ _ _ _ _ _ _ _ _ _ _ _ _ _ _ _ _ _ _ _ _ _ _ ?_ ?_ ?_ ?_ ?_ ?_ ?_ ?_ ?_ y x hA hv.1 (hb 0) (hk 0)
    exacts [fun a k y x => (mains _ _ _ _ a k y x).1, fun j => (rows_off _ _ j).1, fun j => (rows_off _ _ j).2.1, fun j => (cols_off _ _ j).1, fun j => (cols_off _ _ j).2.1,
      fun j => (corners_on _ _ j).1.1, fun j => (corners_on _ _ j).1.2.1, fun j => (corners_on _ _ j).1.2.2.1, fun j => (corners_on _ _ j).1.2.2.2]
  · refine (chan_other 2 1 (by decide) (by decide) _ _ _ _ _ _ _ _ _ _ _ _ _ _ _ _ _ _ _ y x).trans ?_
    unfold bodyRun.sl.H12_17 bodyRun.sl.H12_16 bodyRun.sl.H12_15 bodyRun.sl.H12_14 bodyRun.sl.H12_13 bodyRun.sl.H12_12 bodyRun.sl.H12_11 bodyRun.sl.H12_10
    refine chan_value arg13 1 (by decide) _ _ _ _ _ _ _ _ _ _ _ _ _ _ _ _ _ _ _ _ _ _ _ ?_ ?_ ?_ ?_ ?_ ?_ ?_ ?_ ?_ y x hA hv.2.1 (hb 1) (hk 1)
    exacts [fun a k y x => (mains _ _ _ _ a k y x).2.1, fun j => (rows_off _ _ j).2.2.1, fun j => (rows_off _ _ j).2.2.2.1, fun j => (cols_off _ _ j).2.2.1, fun j => (cols_off _ _ j).2.2.2.1,
      fun j => (corners_on _ _ j).2.1.1, fun j => (corners_on _ _ j).2.1.2.1, fun j => (corners_on _ _ j).2.1.2.2.1, fun j => (corners_on _ _ j).2.1.2.2.2]
  · refine chan_value arg13 2 (by decide) _ _ _ _ _ _ _ _ _ _ _ _ _ _ _ _ _ _ _ _ _ _ _ ?_ ?_ ?_ ?_ ?_ ?_ ?_ ?_ ?_ y x hA hv.2.2 (hb 2) (hk 2)
    exacts [fun a k y x => (mains _ _ _ _ a k y x).2.2, fun j => (rows_off _ _ j).2.2.2.2.1, fun j => (rows_off _ _ j).2.2.2.2.2, fun j => (cols_off _ _ j).2.2.2.2.1, fun j => (cols_off _ _ j).2.2.2.2.2,
      fun j => (corners_on _ _ j).2.2.1, fun j => (corners_on _ _ j).2.2.2.1, fun j => (corners_on _ _ j).2.2.2.2.1, fun j => (corners_on _ _ j).2.2.2.2.2]

end

end Cert.KernelIdeal.Val

end
end
-- ==== Proof.HostSide.lean ====
module

public import proofs.«01_k».proof.Proof.BlockOut
public import Idealize.ShloMosaic.Lib.StableHlo.ReadAt

/-! The blocks the body is given, read off the program's arguments. -/

@[expose] public section

set_option maxRecDepth 16384

noncomputable section

namespace Cert.KernelIdeal.Val
open Idealize.ShloMosaic Idealize.ShloMosaic.Pointwise Idealize.SL.Sem Cert.KernelIdeal Cert.KernelIdeal.Gen Cert.KernelIdeal.Body

variable (m : (ℓ : Loc nD τ sig) → Buf (Elt Ideal) ℓ) (c : Dev nD)

/-- An argument of the program, as it was at the start. -/
abbrev arg (b : Ref sig .tc) : Buf (Elt Ideal) ((c.tc : Thread nD τ).loc b) := m ((c.tc : Thread nD τ).loc b)

/-- The three image channels' weights, a row for each output channel and tap. -/
theorem v2_at (o ky kx : Fin 3) (j : Fin 3) : V m c main_v2 (ix2 (row o ky kx) j) = arg m c main_arg6 (ix4 o (⟨j.val, by omega⟩ : Fin 131) ky kx) := by
  unfold row
  after_reads_at

/-- The mask channels' weights, a row for each output channel and tap. -/
theorem v5_at (o ky kx : Fin 3) (j : Fin 128) : V m c main_v5 (ix2 (row o ky kx) j) = arg m c main_arg6 (ix4 o (⟨3 + j.val, by omega⟩ : Fin 131) ky kx) := by
  unfold row
  after_reads_at

/-- The two rows of the mask table that the body is given. -/
theorem v6_at (r : Fin 2) (k : Fin 128) : V m c main_v6 (ix2 r k) = arg m c main_arg5 (ix2 (⟨r.val, by omega⟩ : Fin 1000) k) := by
  after_reads_at

/-- The noise's half of the last layer's weights. -/
theorem v7_at (k : Fin 128) (o : Fin 3) : V m c main_v7 (ix2 k o) = arg m c main_arg8 (ix2 (⟨k.val, by omega⟩ : Fin 192) o) := by
  after_reads_at

/-- The class's half of the last layer's weights. -/
theorem v8_at (k : Fin 64) (o : Fin 3) : V m c main_v8 (ix2 k o) = arg m c main_arg8 (ix2 (⟨128 + k.val, by omega⟩ : Fin 192) o) := by
  after_reads_at

/-- The convolution's bias. -/
theorem v9_at (o : Fin 3) : V m c main_v9 (ix2 0 o) = arg m c main_arg7 (ix1 o) := by
  after_reads_at

/-- The last layer's bias. -/
theorem v10_at (o : Fin 3) : V m c main_v10 (ix2 0 o) = arg m c main_arg9 (ix1 o) := by
  after_reads_at

/-- An index of two coordinates is known by their values. -/
theorem two_eq {a b : ℕ} (j : (⟨2, ![a, b]⟩ : Shape).Idx) (r : Fin a) (k : Fin b) (hr : (j 0).val = r.val) (hk : (j 1).val = k.val) : j = ix2 r k :=
  funext fun d => by
    fin_cases d
    exacts [Fin.ext hr, Fin.ext hk]

/-- An index of four coordinates is known by their values. -/
theorem four_eq {a b e f : ℕ} (j : (⟨4, ![a, b, e, f]⟩ : Shape).Idx) (r : Fin a) (k : Fin b) (y : Fin e) (x : Fin f) (hr : (j 0).val = r.val) (hk : (j 1).val = k.val)
    (hy : (j 2).val = y.val) (hx : (j 3).val = x.val) : j = ix4 r k y x :=
  funext fun d => by
    fin_cases d
    exacts [Fin.ext hr, Fin.ext hk, Fin.ext hy, Fin.ext hx]

/-- The grid's one coordinate, as a number, is what its word holds. -/
theorem coord_word (t : Fin cfg0.N) : (BitVec.ofNat 32 (grid0.coords t 0).val).toNat = (grid0.coords t 0).val := by
  have h : (grid0.coords t 0).val < 4 := (grid0.coords t 0).isLt
  rw [BitVec.toNat_ofNat]
  omega

/-- The labels, at every grid point all of them. -/
theorem blk0 (t : Fin cfg0.N) (b : Fin 4) : iblk m c 0 t (ix1 b) = arg m c main_arg2 (ix1 b) := by
  unfold iblk
  rw [View.read_apply, cast_eq]
  refine (congrFun (V_main_arg2 m c) _).trans (congrArg (arg m c main_arg2) (funext fun d => ?_))
  fin_cases d
  exact Fin.ext (by show 0 * 4 + 1 * b.val = b.val; omega)

/-- A grid point's image. -/
theorem blk1 (t : Fin cfg0.N) (k : Fin 3) (y x : Fin 224) : iblk m c 1 t (ix4 0 k y x) = arg m c main_arg0 (ix4 (grid0.coords t 0) k y x) := by
  have h := coord_word t
  unfold iblk
  rw [View.read_apply, cast_eq]
  exact (congrFun (V_main_arg0 m c) _).trans (congrArg (arg m c main_arg0) (four_eq _ _ _ _ _
    (by show (BitVec.ofNat 32 (grid0.coords t 0).val).toNat * 1 + 1 * 0 = (grid0.coords t 0).val; omega) (by show 0 * 3 + 1 * k.val = k.val; omega)
    (by show 0 * 224 + 1 * y.val = y.val; omega) (by show 0 * 224 + 1 * x.val = x.val; omega)))

/-- A grid point's mask. -/
theorem blk2 (t : Fin cfg0.N) (y x : Fin 224) : iblk m c 2 t (ix4 0 0 y x) = arg m c main_arg3 (ix4 (grid0.coords t 0) 0 y x) := by
  have h := coord_word t
  unfold iblk
  rw [View.read_apply, cast_eq]
  exact (congrFun (V_main_arg3 m c) _).trans (congrArg (arg m c main_arg3) (four_eq _ _ _ _ _
    (by show (BitVec.ofNat 32 (grid0.coords t 0).val).toNat * 1 + 1 * 0 = (grid0.coords t 0).val; omega) (by show 0 * 1 + 1 * 0 = 0; rfl)
    (by show 0 * 224 + 1 * y.val = y.val; omega) (by show 0 * 224 + 1 * x.val = x.val; omega)))

/-- The windows over whole tables hold them at every grid point. -/
theorem blk_tables (t : Fin cfg0.N) :
    (∀ r k, iblk m c 3 t (ix2 r k) = arg m c main_arg1 (ix2 r k)) ∧ (∀ r k, iblk m c 4 t (ix2 r k) = arg m c main_arg4 (ix2 r k))
      ∧ (∀ r k, iblk m c 5 t (ix2 r k) = V m c main_v6 (ix2 r k)) ∧ (∀ r k, iblk m c 6 t (ix2 r k) = V m c main_v2 (ix2 r k))
      ∧ (∀ r k, iblk m c 7 t (ix2 r k) = V m c main_v5 (ix2 r k)) ∧ (∀ r k, iblk m c 8 t (ix2 r k) = V m c main_v7 (ix2 r k))
      ∧ (∀ r k, iblk m c 9 t (ix2 r k) = V m c main_v8 (ix2 r k)) ∧ (∀ r k, iblk m c 10 t (ix2 r k) = V m c main_v9 (ix2 r k))
      ∧ (∀ r k, iblk m c 11 t (ix2 r k) = V m c main_v10 (ix2 r k)) := by
  unfold iblk
  have e : ∀ n k : ℕ, 0 * n + 1 * k = k := fun n k => by omega
  refine ⟨fun r k => ?_, fun r k => ?_, fun r k => ?_, fun r k => ?_, fun r k => ?_, fun r k => ?_, fun r k => ?_, fun r k => ?_, fun r k => ?_⟩
  · rw [View.read_apply, cast_eq]
    exact (congrFun (V_main_arg1 m c) _).trans (congrArg (arg m c main_arg1) (two_eq _ _ _ (e _ _) (e _ _)))
  · rw [View.read_apply, cast_eq]
    exact (congrFun (V_main_arg4 m c) _).trans (congrArg (arg m c main_arg4) (two_eq _ _ _ (e _ _) (e _ _)))
  all_goals rw [View.read_apply, cast_eq]
  · exact congrArg (V m c main_v6) (two_eq _ _ _ (e _ _) (e _ _))
  · exact congrArg (V m c main_v2) (two_eq _ _ _ (e _ _) (e _ _))
  · exact congrArg (V m c main_v5) (two_eq _ _ _ (e _ _) (e _ _))
  · exact congrArg (V m c main_v7) (two_eq _ _ _ (e _ _) (e _ _))
  · exact congrArg (V m c main_v8) (two_eq _ _ _ (e _ _) (e _ _))
  · exact congrArg (V m c main_v9) (two_eq _ _ _ (e _ _) (e _ _))
  · exact congrArg (V m c main_v10) (two_eq _ _ _ (e _ _) (e _ _))

end Cert.KernelIdeal.Val

end
end
-- ==== Proof.RefValue.lean ====
module

public import proofs.«01_k».proof.Proof.Gen.ReferenceIdeal.Run
public import Idealize.ShloMosaic.Lib.Pointwise
public import Idealize.ShloMosaic.Lib.Tactic.CleanTypes
public import Idealize.ShloMosaic.Lib.Tactic.WordOmega

/-! The reference's result, read at one pixel. -/

@[expose] public section

set_option maxRecDepth 16384

noncomputable section

namespace Cert.ReferenceIdeal.Val
open Idealize.ShloMosaic Idealize.ShloMosaic.Pointwise Idealize.SL.Sem Cert.ReferenceIdeal Cert.ReferenceIdeal.Gen Cert.ReferenceIdeal.Value

/-! ## The reference's pieces, named -/

/-- A label's word with a negative one counted from the table's end. -/
def classWord (cls : Vec Ideal S4 .i32) : Vec Ideal S4x1 .i32 :=
  broadcastInDim S4x1 ![0] bcast_S4_S4x1_0 (select (cmpi .slt cls (broadcastInDim S4 ![] bcast_S_S4 (constantI S_ 32 0#32))) (addi cls (broadcastInDim S4 ![] bcast_S_S4 (constantI S_ 32 1000#32))) cls)

/-- The class table's rows that the labels name. -/
def classRows (table : FVec Ideal S1000x64 .f32) (cls : Vec Ideal S4 .i32) : FVec Ideal S4x64 .f32 :=
  select (broadcastInDim S4x64 ![0] bcast_S4_S4x64_0 (Host.reduce IntOp.andi (andi (cmpi .sge (classWord cls) (broadcastInDim S4x1 ![] bcast_S_S4x1 (constantI S_ 32 0#32))) (cmpi .sle (classWord cls) (broadcastInDim S4x1 ![0, 1] bcast_S1x1_S4x1_0_1 (broadcastInDim S1x1 ![1] bcast_S1_S1x1_1 (constantI S1 32 999#32))))) (constantI S_ 1 1#1) reducesTo_S4x1_S4_d1 h_S_))
    (Host.gather gather_S1000x64_S4x1_S4x64_1_0_n_n_0_1_164 table (classWord cls)) (broadcastInDim S4x64 ![] bcast_S_S4x64 (constant (F := Ideal) S_ .f32 0x7FC00000#32))

/-- Class rows brought to length at most one. -/
def classUnit (rows : FVec Ideal S4x64 .f32) : FVec Ideal S4x64 .f32 :=
  mulf rows (broadcastInDim S4x64 ![0, 1] bcast_S4x1_S4x64_0_1 (Host.divf (broadcastInDim S4x1 ![] bcast_S_S4x1 (constant (F := Ideal) S_ .f32 0x3F800000#32)) (maximumf (Host.sqrt (broadcastInDim S4x1 ![0] bcast_S4_S4x1_0 (Host.reduceAdd (mulf rows rows) (constant (F := Ideal) S_ .f32 0x00000000#32) reducesTo_S4x64_S4_d1 h_S_))) (broadcastInDim S4x1 ![] bcast_S_S4x1 (constant (F := Ideal) S_ .f32 0x3F800000#32)))))

/-- The mask's words in one line, a negative one counted from the table's end. -/
def maskWord (mask : Vec Ideal S4x1x224x224 .i32) : Vec Ideal S4x50176x1 .i32 :=
  let w : Vec Ideal S4x50176 .i32 := shapeCast _ (shapeCast _ mask shapeCasts_S4x1x224x224_S4x224x224) shapeCasts_S4x224x224_S4x50176
  broadcastInDim S4x50176x1 ![0, 1] bcast_S4x50176_S4x50176x1_0_1 (select (cmpi .slt w (broadcastInDim S4x50176 ![] bcast_S_S4x50176 (constantI S_ 32 0#32))) (addi w (broadcastInDim S4x50176 ![] bcast_S_S4x50176 (constantI S_ 32 1000#32))) w)

/-- The mask table's rows that the mask names. -/
def maskRows (table : FVec Ideal S1000x128 .f32) (mask : Vec Ideal S4x1x224x224 .i32) : FVec Ideal S4x50176x128 .f32 :=
  select (broadcastInDim S4x50176x128 ![0, 1] bcast_S4x50176_S4x50176x128_0_1 (Host.reduce IntOp.andi (andi (cmpi .sge (maskWord mask) (broadcastInDim S4x50176x1 ![] bcast_S_S4x50176x1 (constantI S_ 32 0#32))) (cmpi .sle (maskWord mask) (broadcastInDim S4x50176x1 ![0, 1, 2] bcast_S1x1x1_S4x50176x1_0_1_2 (broadcastInDim S1x1x1 ![2] bcast_S1_S1x1x1_2 (constantI S1 32 999#32))))) (constantI S_ 1 1#1) reducesTo_S4x50176x1_S4x50176_d2 h_S_))
    (Host.gather gather_S1000x128_S4x50176x1_S4x50176x128_2_0_n_n_0_2_1128 table (maskWord mask)) (broadcastInDim S4x50176x128 ![] bcast_S_S4x50176x128 (constant (F := Ideal) S_ .f32 0x7FC00000#32))

/-- Mask rows brought to length at most one. -/
def maskUnit (rows : FVec Ideal S4x50176x128 .f32) : FVec Ideal S4x50176x128 .f32 :=
  mulf rows (broadcastInDim S4x50176x128 ![0, 1, 2] bcast_S4x50176x1_S4x50176x128_0_1_2 (Host.divf (broadcastInDim S4x50176x1 ![] bcast_S_S4x50176x1 (constant (F := Ideal) S_ .f32 0x3F800000#32)) (maximumf (Host.sqrt (broadcastInDim S4x50176x1 ![0, 1] bcast_S4x50176_S4x50176x1_0_1 (Host.reduceAdd (mulf rows rows) (constant (F := Ideal) S_ .f32 0x00000000#32) reducesTo_S4x50176x128_S4x50176_d2 h_S_))) (broadcastInDim S4x50176x1 ![] bcast_S_S4x50176x1 (constant (F := Ideal) S_ .f32 0x3F800000#32)))))

/-- The image and the mask's channels, with a ring of zeros round them. -/
def padded (image : FVec Ideal S4x3x224x224 .f32) (E : FVec Ideal S4x50176x128 .f32) : FVec Ideal S4x131x226x226 .f32 :=
  pad S4x131x226x226 ![0, 0, 1, 1] ![0, 0, 1, 1] ![0, 0, 0, 0] (concatenate S4x131x224x224 1 [⟨S4x3x224x224, image⟩, ⟨S4x128x224x224, (transpose S4x128x224x224 [0, 3, 1, 2] (shapeCast S4x224x224x128 E shapeCasts_S4x50176x128_S4x224x224x128) transposes_S4x224x224x128_S4x128x224x224_0_3_1_2)⟩] concatenates_S4x3x224x224_S4x128x224x224_S4x131x224x224_d1)
    (sitofp (F := Ideal) .f32 (constantI S_ 32 0#32)) pads_S4x131x224x224_S4x131x226x226_000_000_110_110 h_S_

/-- One tap of the convolution. -/
def tapOf (P : FVec Ideal S4x131x226x226 .f32) (W : FVec Ideal S3x131x3x3 .f32) (ky kx : ℕ) (hP : S4x131x226x226.Slices ![0, 0, ky, kx] S4x131x224x224)
    (hW : S3x131x3x3.Slices ![0, 0, ky, kx] S3x131x1x1) : FVec Ideal S4x3x224x224 .f32 :=
  transpose S4x3x224x224 [0, 3, 1, 2] (Host.dotGeneral dot_S4x131x224x224_S3x131_S4x224x224x3_1_1_023_0_n_n none (extractStridedSlice S4x131x224x224 ![0, 0, ky, kx] P hP)
    (shapeCast S3x131 (extractStridedSlice S3x131x1x1 ![0, 0, ky, kx] W hW) shapeCasts_S3x131x1x1_S3x131)) transposes_S4x224x224x3_S4x3x224x224_0_3_1_2

/-- The noise and the class of every image through the last layer. -/
def linear (noise : FVec Ideal S4x128 .f32) (cl : FVec Ideal S4x64 .f32) (Wl : FVec Ideal S192x3 .f32) (bl : FVec Ideal S3 .f32) : FVec Ideal S4x3 .f32 :=
  addf (Host.dotGeneral dot_S4x192_S192x3_S4x3_1_0_0_1_n_n none (concatenate S4x192 1 [⟨S4x128, noise⟩, ⟨S4x64, cl⟩] concatenates_S4x128_S4x64_S4x192_d1) Wl) (broadcastInDim S4x3 ![0, 1] bcast_S1x3_S4x3_0_1 (broadcastInDim S1x3 ![1] bcast_S3_S1x3_1 bl))

/-- The convolution's nine taps with its bias and the last layer's part. -/
def total (P : FVec Ideal S4x131x226x226 .f32) (W : FVec Ideal S3x131x3x3 .f32) (bc : FVec Ideal S3 .f32) (lin : FVec Ideal S4x3 .f32) : FVec Ideal S4x3x224x224 .f32 :=
  addf (addf (addf (addf (addf (addf (addf (addf (addf (addf
    (tapOf P W 0 0 slices_S4x131x226x226_S4x131x224x224_0_0_0_0 slices_S3x131x3x3_S3x131x1x1_0_0_0_0)
    (tapOf P W 0 1 slices_S4x131x226x226_S4x131x224x224_0_0_0_1 slices_S3x131x3x3_S3x131x1x1_0_0_0_1))
    (tapOf P W 0 2 slices_S4x131x226x226_S4x131x224x224_0_0_0_2 slices_S3x131x3x3_S3x131x1x1_0_0_0_2))
    (tapOf P W 1 0 slices_S4x131x226x226_S4x131x224x224_0_0_1_0 slices_S3x131x3x3_S3x131x1x1_0_0_1_0))
    (tapOf P W 1 1 slices_S4x131x226x226_S4x131x224x224_0_0_1_1 slices_S3x131x3x3_S3x131x1x1_0_0_1_1))
    (tapOf P W 1 2 slices_S4x131x226x226_S4x131x224x224_0_0_1_2 slices_S3x131x3x3_S3x131x1x1_0_0_1_2))
    (tapOf P W 2 0 slices_S4x131x226x226_S4x131x224x224_0_0_2_0 slices_S3x131x3x3_S3x131x1x1_0_0_2_0))
    (tapOf P W 2 1 slices_S4x131x226x226_S4x131x224x224_0_0_2_1 slices_S3x131x3x3_S3x131x1x1_0_0_2_1))
    (tapOf P W 2 2 slices_S4x131x226x226_S4x131x224x224_0_0_2_2 slices_S3x131x3x3_S3x131x1x1_0_0_2_2))
    (broadcastInDim S4x3x224x224 ![0, 1, 2, 3] bcast_S1x3x1x1_S4x3x224x224_0_1_2_3 (broadcastInDim S1x3x1x1 ![1] bcast_S3_S1x3x1x1_1 bc)))
    (broadcastInDim S4x3x224x224 ![0, 1, 2, 3] bcast_S4x3x1x1_S4x3x224x224_0_1_2_3 (broadcastInDim S4x3x1x1 ![0, 1] bcast_S4x3_S4x3x1x1_0_1 lin))

section
variable (m : (ℓ : Loc nD τ sig) → Buf (Elt Ideal) ℓ) (c : Dev nD)

/-- An argument of the reference, as it was at the start. -/
abbrev arg (b : Ref sig .tc) : Buf (Elt Ideal) ((c.tc : Thread nD τ).loc b) := m ((c.tc : Thread nD τ).loc b)

/-- The reference's result by its pieces. -/
theorem res_eq : res_main_v91 (F := Ideal) m c = total (padded (arg m c main_arg0) (maskUnit (maskRows (arg m c main_arg5) (arg m c main_arg3)))) (arg m c main_arg6) (arg m c main_arg7)
    (linear (arg m c main_arg1) (classUnit (classRows (arg m c main_arg4) (arg m c main_arg2))) (arg m c main_arg8) (arg m c main_arg9)) := by
  unfold res_main_v91
  rfl

end

/-! ## The pieces at an index -/

/-- What a row is multiplied by to bring its length to at most one. -/
def scale {n : ℕ} (w : Fin n → EReal) : EReal := Ideal.div 1 (max (Ideal.sqrt (∑ x, w x * w x)) 1)

/-- A word below 1000 is not counted from the end. -/
theorem word_kept (w : BitVec 32) (h : w.toNat < 1000) : Scalar.select (IntOp.cmpi .slt w 0#32) (IntOp.addi w 1000#32) w = w := by
  refine BitVec.eq_of_toNat_eq ?_
  word_omega

/-- A word below 1000 passes the two range comparisons. -/
theorem word_inside (w : BitVec 32) (h : w.toNat < 1000) : IntOp.andi (IntOp.cmpi .sge w 0#32) (IntOp.cmpi .sle w 999#32) = 1#1 := by
  have e : w.toInt = (w.toNat : ℤ) := BitVec.toInt_eq_toNat_of_lt (by omega)
  have h1 : (0#32).sle w = true := decide_eq_true (by rw [e]; simp)
  have h2 : w.sle 999#32 = true := decide_eq_true (by rw [e]; show (w.toNat : ℤ) ≤ 999; omega)
  show IntOp.andi (BitVec.ofBool ((0#32).sle w)) (BitVec.ofBool (w.sle 999#32)) = 1#1
  rw [h1, h2]
  decide

/-- The conjunction along an axis of extent one. -/
theorem fold_unit (f : Fin 1 → BitVec 1) (h : f 0 = 1#1) : Finset.fold IntOp.andi (1#1) f Finset.univ = 1#1 := by
  rw [Fin.univ_succ]
  simp [h, IntOp.andi]

/-- A word below 1000, read signed and clamped to the table. -/
theorem word_clamped (w : BitVec 32) (h : w.toNat < 1000) : min w.toInt.toNat 999 = w.toNat := by
  have : w.toInt = (w.toNat : ℤ) := BitVec.toInt_eq_toNat_of_lt (by omega)
  rw [this]; omega

theorem classWord_at (cls : Vec Ideal S4 .i32) (b : Fin 4) (h : (show BitVec 32 from cls (ix1 b)).toNat < 1000) : classWord cls (ix2 b 0) = cls (ix1 b) := by
  unfold classWord
  pointwise
  exact word_kept (cls (ix1 b)) h

theorem gather_class (table : FVec Ideal S1000x64 .f32) (idx : Vec Ideal S4x1 .i32) (b : Fin 4) (j : Fin 64) (lbl : Fin 1000)
    (h : lbl.val = (show BitVec 32 from idx (ix2 b 0)).toNat) :
    Host.gather gather_S1000x64_S4x1_S4x64_1_0_n_n_0_1_164 table idx (ix2 b j) = table (ix2 lbl j) := by
  unfold Host.gather
  refine congrArg table (funext fun a => Fin.ext ?_)
  have hs : gather_S1000x64_S4x1_S4x64_1_0_n_n_0_1_164.siIdx (ix2 b j) ⟨0, by decide⟩ = ix2 b 0 :=
    funext fun d => by fin_cases d <;> rfl
  have hw := word_clamped (idx (ix2 b 0)) (lt_of_eq_of_lt h.symm lbl.isLt)
  fin_cases a
  · show gather_S1000x64_S4x1_S4x64_1_0_n_n_0_1_164.start (ix2 b j) idx 0 + gather_S1000x64_S4x1_S4x64_1_0_n_n_0_1_164.batchCoord (ix2 b j) 0
      + gather_S1000x64_S4x1_S4x64_1_0_n_n_0_1_164.offCoord (ix2 b j) 0 = lbl.val
    rw [GatherDims.batchCoord_eq_zero _ _ _ (by decide), GatherDims.offCoord_eq_zero _ _ _ (by decide)]
    unfold GatherDims.start
    rw [dif_pos (by decide)]
    show min (idx (gather_S1000x64_S4x1_S4x64_1_0_n_n_0_1_164.siIdx (ix2 b j) ⟨0, _⟩)).toInt.toNat 999 + 0 + 0 = lbl.val
    rw [hs, h]
    exact hw
  · show gather_S1000x64_S4x1_S4x64_1_0_n_n_0_1_164.start (ix2 b j) idx 1 + gather_S1000x64_S4x1_S4x64_1_0_n_n_0_1_164.batchCoord (ix2 b j) 1
      + gather_S1000x64_S4x1_S4x64_1_0_n_n_0_1_164.offCoord (ix2 b j) 1 = j.val
    rw [GatherDims.batchCoord_eq_zero _ _ _ (by decide)]
    unfold GatherDims.start GatherDims.offCoord
    rw [dif_neg (by decide), dif_pos (by decide)]
    show 0 + 0 + j.val = j.val
    omega

theorem gather_mask (table : FVec Ideal S1000x128 .f32) (idx : Vec Ideal S4x50176x1 .i32) (b : Fin 4) (p : Fin 50176) (j : Fin 128) (lbl : Fin 1000)
    (h : lbl.val = (show BitVec 32 from idx (ix3 b p 0)).toNat) :
    Host.gather gather_S1000x128_S4x50176x1_S4x50176x128_2_0_n_n_0_2_1128 table idx (ix3 b p j) = table (ix2 lbl j) := by
  unfold Host.gather
  refine congrArg table (funext fun a => Fin.ext ?_)
  have hs : gather_S1000x128_S4x50176x1_S4x50176x128_2_0_n_n_0_2_1128.siIdx (ix3 b p j) ⟨0, by decide⟩ = ix3 b p 0 :=
    funext fun d => by fin_cases d <;> rfl
  have hw := word_clamped (idx (ix3 b p 0)) (lt_of_eq_of_lt h.symm lbl.isLt)
  fin_cases a
  · show gather_S1000x128_S4x50176x1_S4x50176x128_2_0_n_n_0_2_1128.start (ix3 b p j) idx 0 + gather_S1000x128_S4x50176x1_S4x50176x128_2_0_n_n_0_2_1128.batchCoord (ix3 b p j) 0
      + gather_S1000x128_S4x50176x1_S4x50176x128_2_0_n_n_0_2_1128.offCoord (ix3 b p j) 0 = lbl.val
    rw [GatherDims.batchCoord_eq_zero _ _ _ (by decide), GatherDims.offCoord_eq_zero _ _ _ (by decide)]
    unfold GatherDims.start
    rw [dif_pos (by decide)]
    show min (idx (gather_S1000x128_S4x50176x1_S4x50176x128_2_0_n_n_0_2_1128.siIdx (ix3 b p j) ⟨0, _⟩)).toInt.toNat 999 + 0 + 0 = lbl.val
    rw [hs, h]
    exact hw
  · show gather_S1000x128_S4x50176x1_S4x50176x128_2_0_n_n_0_2_1128.start (ix3 b p j) idx 1 + gather_S1000x128_S4x50176x1_S4x50176x128_2_0_n_n_0_2_1128.batchCoord (ix3 b p j) 1
      + gather_S1000x128_S4x50176x1_S4x50176x128_2_0_n_n_0_2_1128.offCoord (ix3 b p j) 1 = j.val
    rw [GatherDims.batchCoord_eq_zero _ _ _ (by decide)]
    unfold GatherDims.start GatherDims.offCoord
    rw [dif_neg (by decide), dif_pos (by decide)]
    show 0 + 0 + j.val = j.val
    omega

theorem classRows_at (table : FVec Ideal S1000x64 .f32) (cls : Vec Ideal S4 .i32) (b : Fin 4) (lbl : Fin 1000) (hl : lbl.val = (show BitVec 32 from cls (ix1 b)).toNat) (j : Fin 64) :
    classRows table cls (ix2 b j) = table (ix2 lbl j) := by
  have hlt := lt_of_eq_of_lt hl.symm lbl.isLt
  have hw := classWord_at cls b hlt
  unfold classRows
  pointwise
  rw [fold_unit _ (by rw [hw]; exact word_inside (cls (ix1 b)) hlt)]
  exact gather_class table (classWord cls) b j lbl (by rw [hw]; exact hl)

/-- The line's position of a pixel. -/
def pix (y x : Fin 224) : Fin 50176 := ⟨y.val * 224 + x.val, by omega⟩

theorem maskWord_at (mask : Vec Ideal S4x1x224x224 .i32) (b : Fin 4) (y x : Fin 224) (h : (show BitVec 32 from mask (ix4 b 0 y x)).toNat < 1000) :
    maskWord mask (ix3 b (pix y x) 0) = mask (ix4 b 0 y x) := by
  unfold maskWord
  pointwise
  have e : (ix4 b 0 ⟨(pix y x).val / 224, by omega⟩ ⟨(pix y x).val % 224, by omega⟩ : S4x1x224x224.Idx) = ix4 b 0 y x := by
    have := x.isLt
    have h1 : (y.val * 224 + x.val) / 224 = y.val := by omega
    have h2 : (y.val * 224 + x.val) % 224 = x.val := by omega
    funext d
    fin_cases d
    · rfl
    · rfl
    · exact Fin.ext h1
    · exact Fin.ext h2
  rw [e]
  exact word_kept (mask (ix4 b 0 y x)) h

theorem maskRows_at (table : FVec Ideal S1000x128 .f32) (mask : Vec Ideal S4x1x224x224 .i32) (b : Fin 4) (y x : Fin 224) (lbl : Fin 1000)
    (hl : lbl.val = (show BitVec 32 from mask (ix4 b 0 y x)).toNat) (j : Fin 128) :
    maskRows table mask (ix3 b (pix y x) j) = table (ix2 lbl j) := by
  have hlt := lt_of_eq_of_lt hl.symm lbl.isLt
  have hw := maskWord_at mask b y x hlt
  unfold maskRows
  pointwise
  rw [fold_unit _ (by rw [hw]; exact word_inside (mask (ix4 b 0 y x)) hlt)]
  exact gather_mask table (maskWord mask) b (pix y x) j lbl (by rw [hw]; exact hl)

theorem classUnit_at (rows : FVec Ideal S4x64 .f32) (b : Fin 4) (j : Fin 64) : classUnit rows (ix2 b j) = rows (ix2 b j) * scale fun k => rows (ix2 b k) := by
  pointwise [classUnit]
  rfl

theorem maskUnit_at (rows : FVec Ideal S4x50176x128 .f32) (b : Fin 4) (p : Fin 50176) (j : Fin 128) : maskUnit rows (ix3 b p j) = rows (ix3 b p j) * scale fun k => rows (ix3 b p k) := by
  pointwise [maskUnit]
  rfl

/-- The padded picture: the image's channels, then the mask's, and zero off the image. -/
theorem padded_at (image : FVec Ideal S4x3x224x224 .f32) (E : FVec Ideal S4x50176x128 .f32) (b : Fin 4) (k : Fin 131) (y x : Fin 226) :
    padded image E (ix4 b k y x) = if h : (1 ≤ y.val ∧ y.val - 1 < 224) ∧ 1 ≤ x.val ∧ x.val - 1 < 224 then
      (if h' : k.val < 3 then image (ix4 b ⟨k.val, h'⟩ ⟨y.val - 1, h.1.2⟩ ⟨x.val - 1, h.2.2⟩)
        else E (ix3 b (pix ⟨y.val - 1, h.1.2⟩ ⟨x.val - 1, h.2.2⟩) ⟨k.val - 3, by omega⟩)) else 0 := by
  pointwise [padded]
  rw [show (FloatOps.sitofp (F := Ideal) FTy.f32 0#32 : EReal) = 0 from by show (((0#32 : BitVec 32).toInt : ℝ) : EReal) = 0; simp]
  rfl

theorem tapOf_at (P : FVec Ideal S4x131x226x226 .f32) (W : FVec Ideal S3x131x3x3 .f32) (ky kx : Fin 3) (hP hW) (b : Fin 4) (o : Fin 3) (y x : Fin 224) :
    tapOf P W ky.val kx.val hP hW (ix4 b o y x) = ∑ k : Fin 131, P (ix4 b k ⟨ky.val + y.val, by omega⟩ ⟨kx.val + x.val, by omega⟩) * W (ix4 o k ky kx) := by
  pointwise [tapOf]

theorem linear_at (noise : FVec Ideal S4x128 .f32) (cl : FVec Ideal S4x64 .f32) (Wl : FVec Ideal S192x3 .f32) (bl : FVec Ideal S3 .f32) (b : Fin 4) (o : Fin 3) :
    linear noise cl Wl bl (ix2 b o) = ∑ k : Fin 128, noise (ix2 b k) * Wl (ix2 ⟨k.val, by omega⟩ o) + ∑ k : Fin 64, cl (ix2 b k) * Wl (ix2 ⟨128 + k.val, by omega⟩ o) + bl (ix1 o) := by
  pointwise [linear]

theorem total_at (P : FVec Ideal S4x131x226x226 .f32) (W : FVec Ideal S3x131x3x3 .f32) (bc : FVec Ideal S3 .f32) (lin : FVec Ideal S4x3 .f32) (b : Fin 4) (o : Fin 3) (y x : Fin 224) :
    total P W bc lin (ix4 b o y x) = (∑ q : Fin 3 × Fin 3, ∑ k : Fin 131, P (ix4 b k ⟨q.1.val + y.val, by omega⟩ ⟨q.2.val + x.val, by omega⟩) * W (ix4 o k q.1 q.2)) + bc (ix1 o) + lin (ix2 b o) := by
  have e := fun (ky kx : Fin 3) hP hW => tapOf_at P W ky kx hP hW b o y x
  rw [Fintype.sum_prod_type]
  simp only [Fin.sum_univ_three, ← add_assoc]
  rw [← e 0 0 slices_S4x131x226x226_S4x131x224x224_0_0_0_0 slices_S3x131x3x3_S3x131x1x1_0_0_0_0,
    ← e 0 1 slices_S4x131x226x226_S4x131x224x224_0_0_0_1 slices_S3x131x3x3_S3x131x1x1_0_0_0_1,
    ← e 0 2 slices_S4x131x226x226_S4x131x224x224_0_0_0_2 slices_S3x131x3x3_S3x131x1x1_0_0_0_2,
    ← e 1 0 slices_S4x131x226x226_S4x131x224x224_0_0_1_0 slices_S3x131x3x3_S3x131x1x1_0_0_1_0,
    ← e 1 1 slices_S4x131x226x226_S4x131x224x224_0_0_1_1 slices_S3x131x3x3_S3x131x1x1_0_0_1_1,
    ← e 1 2 slices_S4x131x226x226_S4x131x224x224_0_0_1_2 slices_S3x131x3x3_S3x131x1x1_0_0_1_2,
    ← e 2 0 slices_S4x131x226x226_S4x131x224x224_0_0_2_0 slices_S3x131x3x3_S3x131x1x1_0_0_2_0,
    ← e 2 1 slices_S4x131x226x226_S4x131x224x224_0_0_2_1 slices_S3x131x3x3_S3x131x1x1_0_0_2_1,
    ← e 2 2 slices_S4x131x226x226_S4x131x224x224_0_0_2_2 slices_S3x131x3x3_S3x131x1x1_0_0_2_2]
  pointwise [total]

end Cert.ReferenceIdeal.Val

end
end
-- ==== Proof.Algebra.lean ====
module

public import proofs.«01_k».proof.Proof.Block
public import proofs.«01_k».proof.Proof.RefValue

/-! The arithmetic that joins the kernel's pixel and the convolution's: the border's corrections leave the taps that
    fall inside the image, and a mask of zeros and ones picks a row by base and step. -/

@[expose] public section

set_option maxRecDepth 16384

noncomputable section

namespace Cert.KernelIdeal.Val
open Idealize.ShloMosaic Idealize.ShloMosaic.Pointwise

/-! ## Rows of length at most one are finite -/

/-- An entry of a row brought to length at most one is a real number, whatever the row holds. -/
theorem unit_real {n : ℕ} (w : Fin n → EReal) (k : Fin n) : ∃ r : ℝ, w k * scale w = (r : EReal) := by
  have hpos : ∀ d : EReal, 1 ≤ d → ∃ r : ℝ, Ideal.div 1 d = (r : EReal) := by
    intro d hd
    induction d with
    | bot => exact absurd (le_bot_iff.1 hd) (by decide)
    | top => exact ⟨0, by simp [Ideal.div]⟩
    | coe d =>
      have h0 : d ≠ 0 := by
        rintro rfl
        exact absurd hd (by norm_num)
      exact ⟨d⁻¹, by simp [Ideal.div, h0, EReal.coe_inv]⟩
  have htop : w k = ⊤ ∨ w k = ⊥ → scale w = 0 := by
    intro h
    have hk : w k * w k = ⊤ := by rcases h with h | h <;> rw [h] <;> simp
    have hs : ∑ x, w x * w x = ⊤ := by
      refine top_le_iff.1 (hk.symm.le.trans (Finset.single_le_sum (f := fun x => w x * w x) (fun x _ => ?_) (Finset.mem_univ k)))
      induction w x with
      | bot => simp
      | top => simp
      | coe r => exact_mod_cast mul_self_nonneg r
    unfold scale
    rw [hs]
    simp [Ideal.div]
  obtain ⟨s, hs⟩ := hpos (max (Ideal.sqrt (∑ x, w x * w x)) 1) (le_max_right _ _)
  have hs' : scale w = (s : EReal) := hs
  induction h : w k with
  | bot => exact ⟨0, by rw [htop (Or.inr h)]; simp⟩
  | top => exact ⟨0, by rw [htop (Or.inl h)]; simp⟩
  | coe r => exact ⟨r * s, by rw [hs']; norm_cast⟩

/-! ## A mask of zeros and ones -/

theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The step from the first row to the second, added to the first row's part, is the second row's part. -/
theorem base_step {n : ℕ} (w r0 r1 : Fin n → ℝ) :
    ∑ j, (w j : EReal) * ((r1 j : EReal) - (r0 j : EReal)) + ∑ j, (w j : EReal) * (r0 j : EReal) = ∑ j, (w j : EReal) * (r1 j : EReal) := by
  rw [← Finset.sum_add_distrib]
  refine Finset.sum_congr rfl fun j _ => ?_
  rw [← EReal.coe_sub, ← EReal.coe_mul, ← EReal.coe_mul, ← EReal.coe_mul, ← EReal.coe_add]
  congr 1
  ring

/-! ## The taps that fall inside -/

/-- The tap `q` of a pixel falls on the image. -/
abbrev Inside (y x : Fin 224) (q : Fin 3 × Fin 3) : Prop :=
  (1 ≤ q.1.val + y.val ∧ q.1.val + y.val - 1 < 224) ∧ 1 ≤ q.2.val + x.val ∧ q.2.val + x.val - 1 < 224

/-- A picture with zeros round it, its first row and column counted as 1. -/
def framed (g : Fin 224 → Fin 224 → EReal) (y x : ℕ) : EReal :=
  if h : (1 ≤ y ∧ y - 1 < 224) ∧ 1 ≤ x ∧ x - 1 < 224 then g ⟨y - 1, h.1.2⟩ ⟨x - 1, h.2.2⟩ else 0

theorem down_framed (g : Fin 224 → Fin 224 → EReal) (y x : Fin 224) : down g y x = framed g (0 + y.val) (x.val + 1) := by
  unfold down framed
  by_cases h : 1 ≤ y.val
  · rw [dif_pos h, dif_pos (by omega)]
    congr 1
    exact Fin.ext (by show y.val - 1 = 0 + y.val - 1; omega)
  · rw [dif_neg h, dif_neg (by omega)]

theorem here_framed (g : Fin 224 → Fin 224 → EReal) (y x : Fin 224) : g y x = framed g (1 + y.val) (x.val + 1) := by
  unfold framed
  rw [dif_pos (by omega)]
  congr 1
  exact Fin.ext (by show y.val = 1 + y.val - 1; omega)

theorem up_framed (g : Fin 224 → Fin 224 → EReal) (y x : Fin 224) : up g y x = framed g (2 + y.val) (x.val + 1) := by
  unfold up framed
  by_cases h : y.val < 223
  · rw [dif_pos h, dif_pos (by omega)]
    congr 1
    exact Fin.ext (by show y.val + 1 = 2 + y.val - 1; omega)
  · rw [dif_neg h, dif_neg (by omega)]

variable (W : Fin 27 → Fin 4 → EReal) (g : Fin 4 → Fin 224 → Fin 224 → EReal) (o : Fin 3)

/-- The sources of a picture: the row above, the row itself, the row below. -/
abbrev three (k : Fin 4) : Fin 3 → Fin 224 → Fin 224 → EReal := ![down (g k), g k, up (g k)]

/-- The products of one shift, by framed pictures. -/
theorem tap_framed (kx : Fin 3) (y x : Fin 224) :
    tap W (three g) o kx y x = ∑ ky : Fin 3, ∑ k : Fin 4, W (row o ky kx) k * framed (g k) (ky.val + y.val) (x.val + 1) := by
  have e : ∀ k, three g k 0 y x = framed (g k) (0 + y.val) (x.val + 1) ∧ three g k 1 y x = framed (g k) (1 + y.val) (x.val + 1)
      ∧ three g k 2 y x = framed (g k) (2 + y.val) (x.val + 1) := fun k => ⟨down_framed _ _ _, here_framed _ _ _, up_framed _ _ _⟩
  unfold tap
  simp only [fun k => (e k).1, fun k => (e k).2.1, fun k => (e k).2.2, Fin.sum_univ_three, Fin.sum_univ_four]
  show _ = W (row o 0 kx) 0 * framed (g 0) (0 + y.val) (x.val + 1) + W (row o 0 kx) 1 * framed (g 1) (0 + y.val) (x.val + 1)
      + W (row o 0 kx) 2 * framed (g 2) (0 + y.val) (x.val + 1) + W (row o 0 kx) 3 * framed (g 3) (0 + y.val) (x.val + 1)
    + (W (row o 1 kx) 0 * framed (g 0) (1 + y.val) (x.val + 1) + W (row o 1 kx) 1 * framed (g 1) (1 + y.val) (x.val + 1)
      + W (row o 1 kx) 2 * framed (g 2) (1 + y.val) (x.val + 1) + W (row o 1 kx) 3 * framed (g 3) (1 + y.val) (x.val + 1))
    + (W (row o 2 kx) 0 * framed (g 0) (2 + y.val) (x.val + 1) + W (row o 2 kx) 1 * framed (g 1) (2 + y.val) (x.val + 1)
      + W (row o 2 kx) 2 * framed (g 2) (2 + y.val) (x.val + 1) + W (row o 2 kx) 3 * framed (g 3) (2 + y.val) (x.val + 1))
  abel

/-- One column of taps, at any pixel. -/
def column (y x : Fin 224) (kx : Fin 3) : EReal := ∑ ky : Fin 3, ∑ k : Fin 4, W (row o ky kx) k * framed (g k) (ky.val + y.val) (kx.val + x.val)

theorem column_off (y x : Fin 224) (kx : Fin 3) (h : ¬ (1 ≤ kx.val + x.val ∧ kx.val + x.val - 1 < 224)) : column W g o y x kx = 0 := by
  refine Finset.sum_eq_zero fun ky _ => Finset.sum_eq_zero fun k _ => ?_
  rw [framed, dif_neg (fun h' => h h'.2), mul_zero]

/-- The accumulator's pixel is the sum of the taps that fall inside. -/
theorem shift_inside (y x : Fin 224) :
    shiftSum W (three g) o y x = ∑ q : Fin 3 × Fin 3, if h : Inside y x q then ∑ k : Fin 4, W (row o q.1 q.2) k * g k ⟨q.1.val + y.val - 1, h.1.2⟩ ⟨q.2.val + x.val - 1, h.2.2⟩ else 0 := by
  have e1 : tap W (three g) o 1 y x = column W g o y x 1 := by
    rw [tap_framed, Nat.add_comm x.val 1]; rfl
  have e0 : (if h : 1 ≤ x.val then 0 + tap W (three g) o 0 y ⟨x.val - 1, by omega⟩ else 0) = column W g o y x 0 := by
    by_cases h : 1 ≤ x.val
    · rw [dif_pos h, zero_add, tap_framed]
      show ∑ ky : Fin 3, ∑ k : Fin 4, W (row o ky 0) k * framed (g k) (ky.val + y.val) (x.val - 1 + 1) = _
      rw [show x.val - 1 + 1 = 0 + x.val from by omega]; rfl
    · rw [dif_neg h, column_off]
      show ¬ (1 ≤ 0 + x.val ∧ _)
      omega
  have e2 : ∀ u : EReal, (if h : x.val + 1 < 224 then u + tap W (three g) o 2 y ⟨x.val + 1, h⟩ else u) = u + column W g o y x 2 := by
    intro u
    by_cases h : x.val + 1 < 224
    · rw [dif_pos h, tap_framed]
      show u + ∑ ky : Fin 3, ∑ k : Fin 4, W (row o ky 2) k * framed (g k) (ky.val + y.val) (x.val + 1 + 1) = _
      rw [show x.val + 1 + 1 = 2 + x.val from by omega]; rfl
    · rw [dif_neg h, column_off, add_zero]
      show ¬ (_ ∧ 2 + x.val - 1 < 224)
      omega
  have es : shiftSum W (three g) o y x = ∑ kx : Fin 3, column W g o y x kx := by
    unfold shiftSum
    rw [e0, e1, e2, Fin.sum_univ_three]
  rw [es, Fintype.sum_prod_type, Finset.sum_comm]
  refine Finset.sum_congr rfl fun kx _ => Finset.sum_congr rfl fun ky _ => ?_
  by_cases h : Inside y x (ky, kx)
  · rw [dif_pos h]
    refine Finset.sum_congr rfl fun k _ => ?_
    rw [framed, dif_pos h]
  · rw [dif_neg h]
    refine Finset.sum_eq_zero fun k _ => ?_
    rw [framed, dif_neg h, mul_zero]

/-! ## The border -/

theorem add_sub_real (v : EReal) (p q : ℝ) : v + (p : EReal) - (q : EReal) = v + ((p - q : ℝ) : EReal) := by
  rw [sub_eq_add_neg, add_assoc, ← EReal.coe_neg, ← EReal.coe_add, sub_eq_add_neg]

theorem add_add_real (v : EReal) (p q : ℝ) : v + (p : EReal) + (q : EReal) = v + ((p + q : ℝ) : EReal) := by
  rw [add_assoc, ← EReal.coe_add]

/-- Of all nine taps' real parts the border's corrections leave those of the taps that fall inside. -/
theorem border_inside (v : EReal) (a : Fin 3 → Fin 3 → ℝ) (y x : Fin 224) :
    border (v + ((∑ q : Fin 3 × Fin 3, a q.1 q.2 : ℝ) : EReal)) (∑ k, (a 0 k : EReal)) (∑ k, (a 2 k : EReal))
      ((a 0 0 : EReal) + a 1 0 + a 2 0) ((a 0 2 : EReal) + a 1 2 + a 2 2) (a 0 0) (a 0 2) (a 2 0) (a 2 2) y x
      = v + ((∑ q : Fin 3 × Fin 3, if Inside y x q then a q.1 q.2 else 0 : ℝ) : EReal) := by
  have hi : ∀ ky kx : Fin 3, (Inside y x (ky, kx)) = ((¬ (ky.val = 0 ∧ y.val = 0) ∧ ¬ (ky.val = 2 ∧ y.val = 223)) ∧ ¬ (kx.val = 0 ∧ x.val = 0) ∧ ¬ (kx.val = 2 ∧ x.val = 223)) := fun ky kx =>
    propext (by
      have hy := y.isLt
      have hx := x.isLt
      have hky := ky.isLt
      have hkx := kx.isLt
      show ((1 ≤ ky.val + y.val ∧ ky.val + y.val - 1 < 224) ∧ 1 ≤ kx.val + x.val ∧ kx.val + x.val - 1 < 224) ↔ _
      omega)
  unfold border
  simp only [← coe_sum, ← EReal.coe_add, Fintype.sum_prod_type, Fin.sum_univ_three, hi]
  by_cases y0 : y.val = 0 <;> by_cases y1 : y.val = 223 <;> by_cases x0 : x.val = 0 <;> by_cases x1 : x.val = 223 <;>
    first
    | (exfalso; omega)
    | (simp only [y0, y1, x0, x1, OfNat.zero_ne_ofNat, OfNat.ofNat_ne_zero, and_self, and_true, and_false, true_and, if_true, if_false, add_sub_real, add_add_real]
       refine congrArg (fun r : ℝ => v + (r : EReal)) ?_
       simp
       try ring)

end Cert.KernelIdeal.Val

end
end
-- ==== Proof.Join.lean ====
module

public import proofs.«01_k».proof.Proof.Algebra

/-! The kernel's pixel is the reference's, for any arguments: mask entries are zero or one, labels lie in the table, and
    the mask channels' weights are finite. -/

@[expose] public section

set_option maxRecDepth 16384

noncomputable section

namespace Cert.KernelIdeal.Val
open Idealize.ShloMosaic Idealize.ShloMosaic.Pointwise Cert.ReferenceIdeal.Val

variable (a0 : FVec Ideal S4x3x224x224 .f32) (a1 : FVec Ideal S4x128 .f32) (a2 : Vec Ideal S4 .i32) (a3 : Vec Ideal S4x1x224x224 .i32) (a4 : FVec Ideal S1000x64 .f32)
  (a5 : FVec Ideal S1000x128 .f32) (a6 : FVec Ideal S3x131x3x3 .f32) (a7 : FVec Ideal S3 .f32) (a8 : FVec Ideal S192x3 .f32) (a9 : FVec Ideal S3 .f32)
  (x1 : Vec Ideal S1x3x224x224 .f32) (x2 : Vec Ideal S1x1x224x224 .i32) (x3 : Vec Ideal S4x128 .f32) (x4 : Vec Ideal S1000x64 .f32) (x5 : Vec Ideal S2x128 .f32)
  (x6 : Vec Ideal S27x3 .f32) (x7 : Vec Ideal S27x128 .f32) (x8 : Vec Ideal S128x3 .f32) (x9 : Vec Ideal S64x3 .f32) (x10 x11 : Vec Ideal S1x3 .f32) (b : Fin 4)

/-- The body's blocks at image `b` hold these parts of the arguments. -/
structure Staged : Prop where
  image : ∀ k y x, x1 (ix4 0 k y x) = a0 (ix4 b k y x)
  mask : ∀ y x, x2 (ix4 0 0 y x) = a3 (ix4 b 0 y x)
  noise : ∀ r k, x3 (ix2 r k) = a1 (ix2 r k)
  classes : ∀ r k, x4 (ix2 r k) = a4 (ix2 r k)
  rows : ∀ (r : Fin 2) k, x5 (ix2 r k) = a5 (ix2 ⟨r.val, by omega⟩ k)
  wImage : ∀ o ky kx (j : Fin 3), x6 (ix2 (row o ky kx) j) = a6 (ix4 o ⟨j.val, by omega⟩ ky kx)
  wMask : ∀ o ky kx (j : Fin 128), x7 (ix2 (row o ky kx) j) = a6 (ix4 o ⟨3 + j.val, by omega⟩ ky kx)
  wNoise : ∀ (k : Fin 128) o, x8 (ix2 k o) = a8 (ix2 ⟨k.val, by omega⟩ o)
  wClass : ∀ (k : Fin 64) o, x9 (ix2 k o) = a8 (ix2 ⟨128 + k.val, by omega⟩ o)
  biasConv : ∀ o, x10 (ix2 0 o) = a7 (ix1 o)
  biasLin : ∀ o, x11 (ix2 0 o) = a9 (ix1 o)

variable {a0 a1 a2 a3 a4 a5 a6 a7 a8 a9 x1 x2 x3 x4 x5 x6 x7 x8 x9 x10 x11 b}

/-- The mask channels' weights are finite. -/
abbrev RealWeights (a6 : FVec Ideal S3x131x3x3 .f32) : Prop := ∀ (o : Fin 3) (j : Fin 128) (ky kx : Fin 3), ∃ r : ℝ, a6 (ix4 o (⟨3 + j.val, by omega⟩ : Fin 131) ky kx) = (r : EReal)

/-- The base of every tap is finite. -/
theorem base_real (h : Staged a0 a1 a3 a4 a5 a6 a7 a8 a9 x1 x2 x3 x4 x5 x6 x7 x8 x9 x10 x11 b) (hW : RealWeights a6) (o ky kx : Fin 3) :
    ∃ r : ℝ, base x5 x7 (row o ky kx) = (r : EReal) := by
  choose w hw using hW
  choose u hu using fun k => unit_real (fun k => x5 (ix2 (0 : Fin 2) k)) k
  refine ⟨∑ k, w o k ky kx * u k, ?_⟩
  rw [coe_sum]
  refine Finset.sum_congr rfl fun k _ => ?_
  rw [EReal.coe_mul, h.wMask, hw, ← hu k]
  rfl

/-- The mask channels' part of one tap: the base, and the step where the mask is one. -/
theorem mask_part (h : Staged a0 a1 a3 a4 a5 a6 a7 a8 a9 x1 x2 x3 x4 x5 x6 x7 x8 x9 x10 x11 b) (hW : RealWeights a6) (o ky kx : Fin 3) (w : BitVec 32) (lbl : Fin 1000)
    (hl : lbl.val = w.toNat) (h2 : w.toNat < 2) :
    step x5 x7 (row o ky kx) * ((w.toInt : ℝ) : EReal) + base x5 x7 (row o ky kx)
      = ∑ j : Fin 128, (a5 (ix2 lbl j) * ReferenceIdeal.Val.scale fun k => a5 (ix2 lbl k)) * a6 (ix4 o (⟨3 + j.val, by omega⟩ : Fin 131) ky kx) := by
  choose v hv using hW
  choose u0 hu0 using fun k => unit_real (fun k => x5 (ix2 (0 : Fin 2) k)) k
  choose u1 hu1 using fun k => unit_real (fun k => x5 (ix2 (1 : Fin 2) k)) k
  have e0 : ∀ k, maskRow x5 0 k = (u0 k : EReal) := hu0
  have e1 : ∀ k, maskRow x5 1 k = (u1 k : EReal) := hu1
  have hx7 : ∀ k, x7 (ix2 (row o ky kx) k) = (v o k ky kx : EReal) := fun k => (h.wMask o ky kx k).trans (hv o k ky kx)
  have hi : w.toInt = (w.toNat : ℤ) := BitVec.toInt_eq_toNat_of_lt (by omega)
  have hr : ∀ r : Fin 2, lbl.val = r.val → ∀ k, maskRow x5 r k = a5 (ix2 lbl k) * ReferenceIdeal.Val.scale fun k => a5 (ix2 lbl k) := by
    intro r e k
    have e' : (⟨r.val, by omega⟩ : Fin 1000) = lbl := Fin.ext e.symm
    have e5 : ∀ k, x5 (ix2 r k) = a5 (ix2 lbl k) := fun k => (h.rows r k).trans (by rw [e'])
    unfold maskRow
    simp only [e5]
    rfl
  have hb : base x5 x7 (row o ky kx) = ∑ j, (v o j ky kx : EReal) * (u0 j : EReal) := Finset.sum_congr rfl fun j _ => by rw [hx7, e0]
  have hs : step x5 x7 (row o ky kx) = ∑ j, (v o j ky kx : EReal) * ((u1 j : EReal) - (u0 j : EReal)) := Finset.sum_congr rfl fun j _ => by rw [hx7, e0, e1]
  rcases (show w.toNat = 0 ∨ w.toNat = 1 by omega) with hz | ho
  · rw [hi, hz, hb]
    simp only [Nat.cast_zero, Int.cast_zero, EReal.coe_zero, mul_zero, zero_add]
    refine Finset.sum_congr rfl fun j _ => ?_
    rw [← hr 0 (by rw [hl, hz]; rfl), e0, hv, mul_comm]
  · rw [hi, ho, hb, hs]
    simp only [Nat.cast_one, Int.cast_one, EReal.coe_one, mul_one]
    rw [base_step (fun j => v o j ky kx) u0 u1]
    refine Finset.sum_congr rfl fun j _ => ?_
    rw [← hr 1 (by rw [hl, ho]; rfl), e1, hv, mul_comm]

/-- One tap that falls on the image, at the pixel it falls on. -/
theorem tap_part (h : Staged a0 a1 a3 a4 a5 a6 a7 a8 a9 x1 x2 x3 x4 x5 x6 x7 x8 x9 x10 x11 b) (hW : RealWeights a6) (hM : ∀ y x, (show BitVec 32 from a3 (ix4 b 0 y x)).toNat < 2)
    (o ky kx : Fin 3) (y x : Fin 224) :
    ∑ k : Fin 4, wts x5 x6 x7 (row o ky kx) k * pics x1 x2 k y x + base x5 x7 (row o ky kx)
      = ∑ k : Fin 131, (if h' : k.val < 3 then a0 (ix4 b (⟨k.val, h'⟩ : Fin 3) y x)
          else maskUnit (maskRows a5 a3) (ix3 b (pix y x) (⟨k.val - 3, by omega⟩ : Fin 128))) * a6 (ix4 o k ky kx) := by
  have hm : (show BitVec 32 from a3 (ix4 b 0 y x)).toNat < 2 := hM y x
  have hlt : (show BitVec 32 from a3 (ix4 b 0 y x)).toNat < 1000 := hm.trans (by norm_num)
  have hrow : ∀ j : Fin 128, maskUnit (maskRows a5 a3) (ix3 b (pix y x) j)
      = a5 (ix2 (⟨_, hlt⟩ : Fin 1000) j) * ReferenceIdeal.Val.scale fun k => a5 (ix2 (⟨_, hlt⟩ : Fin 1000) k) := by
    intro j
    rw [maskUnit_at]
    simp only [maskRows_at a5 a3 b y x ⟨_, hlt⟩ rfl]
  have hsplit := Fin.sum_univ_add (fun k : Fin (3 + 128) => (if h' : k.val < 3 then a0 (ix4 b (⟨k.val, h'⟩ : Fin 3) y x)
          else maskUnit (maskRows a5 a3) (ix3 b (pix y x) (⟨k.val - 3, by omega⟩ : Fin 128))) * a6 (ix4 o k ky kx))
  refine Eq.trans ?_ hsplit.symm
  have hA : ∀ k : Fin 3, (if h' : (Fin.castAdd 128 k).val < 3 then a0 (ix4 b (⟨(Fin.castAdd 128 k).val, h'⟩ : Fin 3) y x)
          else maskUnit (maskRows a5 a3) (ix3 b (pix y x) (⟨(Fin.castAdd 128 k).val - 3, by omega⟩ : Fin 128))) * a6 (ix4 o (Fin.castAdd 128 k) ky kx)
        = a0 (ix4 b k y x) * a6 (ix4 o ⟨k.val, by omega⟩ ky kx) := fun k => by
    rw [dif_pos (show (Fin.castAdd 128 k).val < 3 from k.isLt)]
    rfl
  have hB : ∀ j : Fin 128, (if h' : (Fin.natAdd 3 j).val < 3 then a0 (ix4 b (⟨(Fin.natAdd 3 j).val, h'⟩ : Fin 3) y x)
          else maskUnit (maskRows a5 a3) (ix3 b (pix y x) (⟨(Fin.natAdd 3 j).val - 3, by omega⟩ : Fin 128))) * a6 (ix4 o (Fin.natAdd 3 j) ky kx)
        = (a5 (ix2 (⟨_, hlt⟩ : Fin 1000) j) * ReferenceIdeal.Val.scale fun k => a5 (ix2 (⟨_, hlt⟩ : Fin 1000) k)) * a6 (ix4 o (⟨3 + j.val, by omega⟩ : Fin 131) ky kx) := fun j => by
    rw [dif_neg (show ¬ (Fin.natAdd 3 j).val < 3 from by show ¬ 3 + j.val < 3; omega)]
    have e : (⟨(Fin.natAdd 3 j).val - 3, by omega⟩ : Fin 128) = j := Fin.ext (by show 3 + j.val - 3 = j.val; omega)
    rw [e, hrow]
    rfl
  rw [Finset.sum_congr rfl fun k _ => hA k, Finset.sum_congr rfl fun j _ => hB j,
    ← mask_part h hW o ky kx (a3 (ix4 b 0 y x)) ⟨_, hlt⟩ rfl hm, Fin.sum_univ_four, Fin.sum_univ_three]
  have p : ∀ k : Fin 3, wts x5 x6 x7 (row o ky kx) k.castSucc * pics x1 x2 k.castSucc y x = a0 (ix4 b k y x) * a6 (ix4 o ⟨k.val, by omega⟩ ky kx) := by
    intro k
    fin_cases k
    · exact (mul_comm _ _).trans (congrArg₂ (· * ·) (h.image 0 y x) (h.wImage o ky kx 0))
    · exact (mul_comm _ _).trans (congrArg₂ (· * ·) (h.image 1 y x) (h.wImage o ky kx 1))
    · exact (mul_comm _ _).trans (congrArg₂ (· * ·) (h.image 2 y x) (h.wImage o ky kx 2))
  have p3 : wts x5 x6 x7 (row o ky kx) 3 * pics x1 x2 3 y x = step x5 x7 (row o ky kx) * (((show BitVec 32 from a3 (ix4 b 0 y x)).toInt : ℝ) : EReal) := by
    rw [← h.mask]
    rfl
  rw [← p 0, ← p 1, ← p 2, ← p3, ← add_assoc]
  rfl

/-- The nine taps of a channel are its nine rows. -/
theorem nine_rows (A : Fin 27 → EReal) (o : Fin 3) : ∑ k : Fin 9, A ⟨o.val * 9 + k.val, by omega⟩ = ∑ q : Fin 3 × Fin 3, A (row o q.1 q.2) := by
  refine (Equiv.sum_comp (finProdFinEquiv (m := 3) (n := 3)) fun k : Fin (3 * 3) => A ⟨o.val * 9 + k.val, by omega⟩).symm.trans (Finset.sum_congr rfl fun q _ => congrArg A (Fin.ext ?_))
  show o.val * 9 + (q.2.val + 3 * q.1.val) = (o.val * 3 + q.1.val) * 3 + q.2.val
  omega

/-- The kernel's pixel is the reference's. -/
theorem pixel_total (h : Staged a0 a1 a3 a4 a5 a6 a7 a8 a9 x1 x2 x3 x4 x5 x6 x7 x8 x9 x10 x11 b) (hW : RealWeights a6) (hM : ∀ y x, (show BitVec 32 from a3 (ix4 b 0 y x)).toNat < 2)
    (lbl : Fin 1000) (hl : lbl.val = (show BitVec 32 from a2 (ix1 b)).toNat) (o : Fin 3) (y x : Fin 224) :
    pixel (base x5 x7) (shiftSum (wts x5 x6 x7) (srcs x1 x2) o y x) (x10 (ix2 0 o) + konst (fun k => x3 (ix2 b k)) (fun k => x4 (ix2 lbl k)) x8 x9 x11 o) o y x
      = total (padded a0 (maskUnit (maskRows a5 a3))) a6 a7 (linear a1 (classUnit (classRows a4 a2)) a8 a9) (ix4 b o y x) := by
  choose a ha using fun ky kx => base_real h hW o ky kx
  have hcst : konst (fun k => x3 (ix2 b k)) (fun k => x4 (ix2 lbl k)) x8 x9 x11 o = linear a1 (classUnit (classRows a4 a2)) a8 a9 (ix2 b o) := by
    rw [linear_at]
    unfold konst
    simp only [classUnit_at, classRows_at a4 a2 b lbl hl, h.noise, h.classes, h.wNoise, h.wClass, h.biasLin]
    rfl
  have hs : srcs x1 x2 = three (pics x1 x2) := rfl
  unfold pixel
  rw [nine_rows]
  simp only [ha]
  rw [← coe_sum, ← add_assoc, border_inside _ a y x, hs, shift_inside, total_at, hcst, h.biasConv, coe_sum]
  have ht : ∀ q : Fin 3 × Fin 3, ∑ k : Fin 131, padded a0 (maskUnit (maskRows a5 a3)) (ix4 b k ⟨q.1.val + y.val, by omega⟩ ⟨q.2.val + x.val, by omega⟩) * a6 (ix4 o k q.1 q.2)
      = (if h : Inside y x q then ∑ k : Fin 4, wts x5 x6 x7 (row o q.1 q.2) k * pics x1 x2 k ⟨q.1.val + y.val - 1, h.1.2⟩ ⟨q.2.val + x.val - 1, h.2.2⟩ else 0)
        + ((if Inside y x q then a q.1 q.2 else 0 : ℝ) : EReal) := by
    intro q
    by_cases hq : Inside y x q
    · rw [dif_pos hq, if_pos hq, ← ha, tap_part h hW hM]
      refine Finset.sum_congr rfl fun k _ => ?_
      rw [padded_at, dif_pos hq]
    · rw [dif_neg hq, if_neg hq, EReal.coe_zero, add_zero]
      refine Finset.sum_eq_zero fun k _ => ?_
      rw [padded_at, dif_neg hq, zero_mul]
  rw [Finset.sum_congr rfl fun q _ => ht q, Finset.sum_add_distrib]
  abel

end Cert.KernelIdeal.Val

end
end
-- ==== Proof.Value.lean ====
module

public import proofs.«01_k».proof.Proof.BlockOut
public import proofs.«01_k».proof.Proof.HostSide
public import proofs.«01_k».proof.Proof.Join
public import proofs.«01_k».proof.Proof.Frames
public import Idealize.ShloMosaic.Lib.Pipeline.Value

/-! The value claim: from the same arguments the kernel's run and the reference's run end with the same result. -/

@[expose] public section

set_option maxRecDepth 16384

noncomputable section

namespace Cert.KernelIdeal.Val
open Idealize.ShloMosaic Idealize.ShloMosaic.Pointwise Idealize.ShloMosaic.TcCoe Idealize.SL.Sem Cert.KernelIdeal Cert.KernelIdeal.Gen Cert.KernelIdeal.Body
open Cert.ReferenceIdeal.Val (total padded maskUnit maskRows linear classUnit classRows)

variable (m : (ℓ : Loc nD τ sig) → Buf (Elt Ideal) ℓ) (c : Dev nD)

/-- What the result must be: the reference's function of the kernel's arguments. -/
def wanted : FVec Ideal S4x3x224x224 .f32 :=
  total (padded (arg m c main_arg0) (maskUnit (maskRows (arg m c main_arg5) (arg m c main_arg3)))) (arg m c main_arg6) (arg m c main_arg7)
    (linear (arg m c main_arg1) (classUnit (classRows (arg m c main_arg4) (arg m c main_arg2))) (arg m c main_arg8) (arg m c main_arg9))

/-- The body's blocks at a grid point are these parts of the arguments. -/
theorem staged (t : Fin cfg0.N) :
    Staged (arg m c main_arg0) (arg m c main_arg1) (arg m c main_arg3) (arg m c main_arg4) (arg m c main_arg5) (arg m c main_arg6) (arg m c main_arg7) (arg m c main_arg8) (arg m c main_arg9)
      (iblk m c 1 t) (iblk m c 2 t) (iblk m c 3 t) (iblk m c 4 t) (iblk m c 5 t) (iblk m c 6 t) (iblk m c 7 t) (iblk m c 8 t) (iblk m c 9 t) (iblk m c 10 t) (iblk m c 11 t) (grid0.coords t 0) := by
  obtain ⟨h3, h4, h5, h6, h7, h8, h9, h10, h11⟩ := blk_tables m c t
  exact {
    image := blk1 m c t
    mask := blk2 m c t
    noise := h3
    classes := h4
    rows := fun r k => (h5 r k).trans (v6_at m c r k)
    wImage := fun o ky kx j => (h6 _ _).trans (v2_at m c o ky kx j)
    wMask := fun o ky kx j => (h7 _ _).trans (v5_at m c o ky kx j)
    wNoise := fun k o => (h8 _ _).trans (v7_at m c k o)
    wClass := fun k o => (h9 _ _).trans (v8_at m c k o)
    biasConv := fun o => (h10 _ _).trans (v9_at m c o)
    biasLin := fun o => (h11 _ _).trans (v10_at m c o) }

/-- What the body leaves in the result's block at a grid point. -/
theorem outAt_wanted (hH : LabelRows m) (t : Fin cfg0.N) (hC : ∀ b : Fin 4, (show BitVec 32 from arg m c main_arg2 (ix1 b)).toNat < 1000)
    (hM : ∀ (b : Fin 4) (y x : Fin 224), (show BitVec 32 from arg m c main_arg3 (ix4 b 0 y x)).toNat < 2) (hW : RealWeights (arg m c main_arg6)) (o : Fin 3) (y x : Fin 224) :
    outAt m hH c t (ix4 (0 : Fin 1) o y x) = wanted m c (ix4 (grid0.coords t 0) o y x) := by
  unfold outAt
  refine (block_value c (grid0.coords t) _ _ _ _ _ _ _ _ _ _ _ _ _ _ _ _ _ _ _ _ _ _ _ _ _ _ _ _ _ _ _ _ _ _ _ _ _ _ _ _ _ _ _ _ (hH c t) ⟨_, hC (grid0.coords t 0)⟩ ?_ o y x).trans ?_
  · exact congrArg BitVec.toNat (blk0 m c t (grid0.coords t 0)).symm
  · exact pixel_total (staged m c t) hW (fun y x => hM _ y x) ⟨_, hC (grid0.coords t 0)⟩ rfl o y x

/-! ## From blocks to the whole result -/

/-- Two grid points write different blocks. -/
theorem apart : ∀ t t' : Fin cfg0.N, (cfg0.win 12).flush t = true → (cfg0.win 12).flush t' = true → t ≠ t' →
    Disjoint ((cfg0.win 12).blk t).view.set ((cfg0.win 12).blk t').view.set := fun t t' _ _ hne =>
  (cfg0.win 12).disjoint_blk fun h => hne ((by decide +kernel : ∀ t t' : Fin grid0.N, win0_12.index t = win0_12.index t' → t = t') t t' h)

/-- Every image has its grid point. -/
theorem point_of (b : Fin 4) : ∃ t : Fin cfg0.N, grid0.coords t 0 = b :=
  ⟨Fin.cast N_0.symm b, Fin.ext ((by decide +kernel : ∀ b : Fin 4, (grid0.coords (Fin.cast N_0.symm b) 0).val = b.val) b)⟩

/-- The result's array after the run. -/
theorem result_wanted (hH : LabelRows m) (hC : ∀ b : Fin 4, (show BitVec 32 from arg m c main_arg2 (ix1 b)).toNat < 1000)
    (hM : ∀ (b : Fin 4) (y x : Fin 224), (show BitVec 32 from arg m c main_arg3 (ix4 b 0 y x)).toNat < 2) (hW : RealWeights (arg m c main_arg6)) :
    (dats m hH 0 c).arrAt 12 cfg0.N = wanted m c := by
  funext i
  obtain ⟨b, o, y, x, rfl⟩ : ∃ (b : Fin 4) (o : Fin 3) (y x : Fin 224), i = ix4 b o y x := ⟨i 0, i 1, i 2, i 3, eq_ix4 i⟩
  obtain ⟨t, rfl⟩ := point_of b
  have h := coord_word t
  have hb := congrFun ((dats m hH 0 c).read_blk_arrAt_eq_flushed 12 apart cfg0.N t t.isLt (flush0_12 t)) (ix4 (0 : Fin 1) o y x)
  rw [View.read_apply, cast_eq] at hb
  have hi : ((cfg0.win 12).blk t).view.emb (ix4 (0 : Fin 1) o y x) = ix4 (grid0.coords t 0) o y x := four_eq _ _ _ _ _
    (by show (BitVec.ofNat 32 (grid0.coords t 0).val).toNat * 1 + 1 * 0 = (grid0.coords t 0).val; omega) (by show 0 * 3 + 1 * o.val = o.val; omega)
    (by show 0 * 224 + 1 * y.val = y.val; omega) (by show 0 * 224 + 1 * x.val = x.val; omega)
  have hf : (dats m hH 0 c).flushed 12 t (ix4 (0 : Fin 1) o y x) = outAt m hH c t (ix4 (0 : Fin 1) o y x) := by
    show (cfg0.win 12).cut (grid0.coords t) ((dats m hH 0 c).after 12 t) (ix4 (0 : Fin 1) o y x) = _
    rw [after0_12]
    rfl
  rw [hi] at hb
  exact hb.trans (hf.trans (outAt_wanted m c hH t hC hM hW o y x))

/-! ## The two runs -/

variable (ρ : Dev nD → PrngReg)

/-- An argument that a window stages is as it was at the start. -/
theorem kept_staged (hH : LabelRows m) (r : PUnit × MemSt nD τ sig (Elt Ideal)) (h : Pipeline.FramePost cfgs (dats m hH) 0 (V m) r) (w : Fin cfg0.W) (hw : (cfg0.win w).isOut = false) :
    r.2.mem ((c : Thread nD τ).loc (Pipeline.arrRef spec0 w)) = V m c (Pipeline.arrRef spec0 w) :=
  ((h c).1 w).trans (((dats m hH 0 c).arrAt_in w hw _).trans (A_eq m hH c w))

end Cert.KernelIdeal.Val

namespace Cert.Value
open Idealize.ShloMosaic Idealize.ShloMosaic.Pointwise Idealize.ShloMosaic.TcCoe Idealize.SL.Sem Cert.KernelIdeal.Val

attribute [local instance] Cert.KernelIdeal.Gen.facts Cert.ReferenceIdeal.Gen.facts Cert.Pre_labels_and_weights.Gen.facts

open Cert.KernelIdeal Cert.KernelIdeal.Gen Cert.KernelIdeal.Body in
/-- The kernel's run ends with the wanted result and its arguments unchanged. -/
theorem kernel_run (m : (ℓ : Loc nD τ sig) → Buf (Elt Ideal) ℓ) (ρ : Dev nD → PrngReg) (hp : Cert.Pre_KernelIdeal_labels_and_weights m) :
    θ_run (defs (F := Ideal)) (onTc (τ := τ) (main (F := Ideal))) ⟨m, fun _ => 0, ρ⟩ (fun r => ∀ c : Dev nD,
      r.2.mem ((c.tc : Thread nD τ).loc main_v11) = wanted m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have hH := Cert.Frames.rows_ideal' m hp
  refine (θ_run defs _ _).mono (fun r h c => ⟨?_, ?_, ?_, ?_, ?_, ?_, ?_, ?_, ?_, ?_, ?_⟩) (run_main m ρ hH)
  · refine ((h c).1 12).trans (result_wanted m c hH (fun b => ?_) (fun b y x => ?_) fun o j ky kx => ?_)
    · exact Cert.Ranges.labels_of_fn' _ _ _ _ _ _ _ _ _ _ (hp c).1 (ix1 b)
    · exact Cert.Ranges.mask_of_fn _ _ _ _ _ _ _ _ _ _ (hp c).2.1 (ix4 b 0 y x)
    · exact Cert.Ranges.weights_of_fn _ _ _ _ _ _ _ _ _ _ (hp c).2.2 o j ky kx
  · exact (kept_staged m c hH r h 1 rfl).trans (V_main_arg0 m c)
  · exact (kept_staged m c hH r h 3 rfl).trans (V_main_arg1 m c)
  · exact (kept_staged m c hH r h 0 rfl).trans (V_main_arg2 m c)
  · exact (kept_staged m c hH r h 2 rfl).trans (V_main_arg3 m c)
  · exact (kept_staged m c hH r h 4 rfl).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)
  · exact ((h c).2 main_arg7 (Pipeline.mem_restRefs_of main_arg7 (by decide) (by decide))).trans (V_main_arg7 m c)
  · exact ((h c).2 main_arg8 (Pipeline.mem_restRefs_of main_arg8 (by decide) (by decide))).trans (V_main_arg8 m c)
  · exact ((h c).2 main_arg9 (Pipeline.mem_restRefs_of main_arg9 (by decide) (by decide))).trans (V_main_arg9 m c)

/-- From the same arguments the kernel and the reference end with the same result. -/
theorem algebraic : Cert.algebraic_KernelIdeal_ReferenceIdeal_pre_labels_and_weights := by
  intro m ρ m' ρ' hp hargs
  refine ⟨wanted m, kernel_run m ρ hp, ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4, h5, h6, h7, h8, h9⟩ := hargs c
  rw [Cert.ReferenceIdeal.Val.res_eq]
  unfold wanted Cert.ReferenceIdeal.Val.arg
  rw [h0, h1, h2, h3, h4, h5, h6, h7, h8, h9]

end Cert.Value

end
end
-- ==== Proof.lean ====
module

public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_labels_in_range.Gen.facts, Cert.Pre_labels_and_weights.Gen.facts, Cert.Frames.frame_p, Cert.Frames.frame_pi,
  Cert.Frames.frame_pi', Cert.Frames.frame_ri, Cert.Frames.frame_ri', trivial, Cert.Value.algebraic⟩

end Cert.Proof

end

end
